-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal [hPre_in_range : Cert.Pre_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_placed : Cert.Pre_placed.Facts] (m : (ℓ : Loc Cert.Kernel6.nD Cert.Kernel6.τ Cert.Kernel6.sig) → Buf (Elt Bits) ℓ) : Prop :=
  ∀ c : Dev Cert.Kernel6.nD,
    (Cert.Pre_placed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8)) (m ((c.tc : Thread Cert.Kernel6.nD Cert.Kernel6.τ).loc Cert.Kernel6.main_arg9)) (m ((c.tc : Thread Cert.Kernel6.nD Cert.Kernel6.τ).loc Cert.Kernel6.main_arg10))).1 = (fun _ => 1#1)
    ∧ (Cert.Pre_placed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8)) (m ((c.tc : Thread Cert.Kernel6.nD Cert.Kernel6.τ).loc Cert.Kernel6.main_arg9)) (m ((c.tc : Thread Cert.Kernel6.nD Cert.Kernel6.τ).loc Cert.Kernel6.main_arg10))).2.1 = (fun _ => 1#1)
    ∧ (Cert.Pre_placed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8)) (m ((c.tc : Thread Cert.Kernel6.nD Cert.Kernel6.τ).loc Cert.Kernel6.main_arg9)) (m ((c.tc : Thread Cert.Kernel6.nD Cert.Kernel6.τ).loc Cert.Kernel6.main_arg10))).2.2 = (fun _ => 1#1)

def Pre_Kernel6Ideal [hPre_placed : Cert.Pre_placed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_placed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_placed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_placed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2 = (fun _ => 1#1)

def Pre_Reference6Ideal [hPre_placed : Cert.Pre_placed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_placed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_placed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_placed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_in_range : Cert.Pre_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] [hPre_placed : Cert.Pre_placed.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] [hPre_placed : Cert.Pre_placed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] [hPre_placed : Cert.Pre_placed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] [hPre_placed : Cert.Pre_placed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_range : Cert.Pre_in_range.Facts) (hPre_placed : Cert.Pre_placed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_in_range := hPre_in_range)
    ∧ quiescent_Kernel3Ideal (hKernel3Ideal := hKernel3Ideal) (hPre_in_range := hPre_in_range)
    ∧ quiescent_Reference3Ideal (hReference3Ideal := hReference3Ideal) (hPre_in_range := hPre_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_placed := hPre_placed)
    ∧ quiescent_Kernel6Ideal (hKernel6Ideal := hKernel6Ideal) (hPre_placed := hPre_placed)
    ∧ quiescent_Reference6Ideal (hReference6Ideal := hReference6Ideal) (hPre_placed := hPre_placed)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_in_range := hPre_in_range)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_placed := hPre_placed)
-- ==== Pre_in_range.lean ====
abbrev S69632x1024 : Shape := ⟨2, ![69632, 1024]⟩
abbrev S136 : Shape := ⟨1, ![136]⟩
abbrev S1 : Shape := ⟨1, ![1]⟩
abbrev S1x1024 : Shape := ⟨2, ![1, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S69632x1024 .bf16) (main_arg1 : IVec S136 32) (main_arg2 : IVec S1 32) (main_arg3 : FVec F S1x1024 .f32) (main_arg4 : FVec F S8x1024x3584 .f32) (main_arg5 : FVec F S8x1024x3584 .f32) (main_arg6 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Pre_placed.lean ====
abbrev S32768x1024 : Shape := ⟨2, ![32768, 1024]⟩
abbrev S69632x1024 : Shape := ⟨2, ![69632, 1024]⟩
abbrev S32768x2 : Shape := ⟨2, ![32768, 2]⟩
abbrev S2048 : Shape := ⟨1, ![2048]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S128x256x2x1 : Shape := ⟨4, ![128, 256, 2, 1]⟩
abbrev S128x1x1x16 : Shape := ⟨4, ![128, 1, 1, 16]⟩
abbrev S_ : Shape := ⟨0, ![]⟩
abbrev S128x256x2x16 : Shape := ⟨4, ![128, 256, 2, 16]⟩
abbrev S128x256x2 : Shape := ⟨3, ![128, 256, 2]⟩
abbrev S32768x1 : Shape := ⟨2, ![32768, 1]⟩
abbrev S32768 : Shape := ⟨1, ![32768]⟩

class Facts : Prop where
  shapeCasts_S32768x2_S128x256x2x1 : S32768x2.ShapeCasts S128x256x2x1
  shapeCasts_S2048_S128x1x1x16 : S2048.ShapeCasts S128x1x1x16
  bcast_S_S128x1x1x16 : S_.BroadcastsInDim S128x1x1x16 (![] : Fin 0 → Fin S128x1x1x16.rank)
  bcast_S128x256x2x1_S128x256x2x16_0_1_2_3 : S128x256x2x1.BroadcastsInDim S128x256x2x16 (![0, 1, 2, 3] : Fin 4 → Fin S128x256x2x16.rank)
  bcast_S128x1x1x16_S128x256x2x16_0_1_2_3 : S128x1x1x16.BroadcastsInDim S128x256x2x16 (![0, 1, 2, 3] : Fin 4 → Fin S128x256x2x16.rank)
  bcast_S_S2048 : S_.BroadcastsInDim S2048 (![] : Fin 0 → Fin S2048.rank)
  natLt_1_32 : 1 < 32
  reducesTo_S128x256x2x16_S128x256x2_d3 : S128x256x2x16.ReducesTo [3] S128x256x2
  h_S_ : 0 < S_.numel
  bcast_S_S128x256x2 : S_.BroadcastsInDim S128x256x2 (![] : Fin 0 → Fin S128x256x2.rank)
  slices_S32768x2_S32768x1_0_0 : S32768x2.Slices ![0, 0] S32768x1
  shapeCasts_S32768x1_S32768 : S32768x1.ShapeCasts S32768
  slices_S32768x2_S32768x1_0_1 : S32768x2.Slices ![0, 1] S32768x1

variable [Facts]

def fn_part1 {F : FTy → Type} [FloatOps F] (main_arg2 : IVec S32768x2 32) (main_arg4 : IVec S2048 32) (main_v17 : IVec S128x256x2x16 1) (main_v19 : IVec S2048 1) : IVec S2048 1 × IVec S128x256x2 1 × IVec S32768 1 :=
  let main_c_3 : IVec S_ 32 := constantI S_ 32 272#32
  let main_v20 : IVec S2048 32 := broadcastInDim S2048 ![] bcast_S_S2048 main_c_3
  let main_v21 : IVec S2048 1 := cmpi .slt main_arg4 main_v20
  let main_v22 : IVec S2048 1 := andi main_v19 main_v21
  let main_v23 : IVec S128x256x2x16 32 := (extui 32 · natLt_1_32) main_v17
  let main_c_4 : IVec S_ 32 := constantI S_ 32 0#32
  let main_v24 : IVec S128x256x2 32 := (fun x v => Host.reduce IntOp.addi x v reducesTo_S128x256x2x16_S128x256x2_d3 h_S_) main_v23 main_c_4
  let main_c_5 : IVec S_ 32 := constantI S_ 32 1#32
  let main_v25 : IVec S128x256x2 32 := broadcastInDim S128x256x2 ![] bcast_S_S128x256x2 main_c_5
  let main_v26 : IVec S128x256x2 1 := cmpi .eq main_v24 main_v25
  let main_v27 : IVec S32768x1 32 := (extractStridedSlice S32768x1 ![0, 0] · slices_S32768x2_S32768x1_0_0) main_arg2
  let main_v28 : IVec S32768 32 := shapeCast S32768 main_v27 shapeCasts_S32768x1_S32768
  let main_v29 : IVec S32768x1 32 := (extractStridedSlice S32768x1 ![0, 1] · slices_S32768x2_S32768x1_0_1) main_arg2
  let main_v30 : IVec S32768 32 := shapeCast S32768 main_v29 shapeCasts_S32768x1_S32768
  let main_v31 : IVec S32768 1 := cmpi .ne main_v28 main_v30
  (main_v22, main_v26, main_v31)

def fn {F : FTy → Type} [FloatOps F] (main_arg0 : FVec F S32768x1024 .f32) (main_arg1 : FVec F S69632x1024 .bf16) (main_arg2 : IVec S32768x2 32) (main_arg3 : FVec F S32768x2 .f32) (main_arg4 : IVec S2048 32) (main_arg5 : IVec S2048 32) (main_arg6 : FVec F S4x8192x256 .f32) (main_arg7 : FVec F S1024 .f32) (main_arg8 : FVec F S1024x1024 .f32) (main_arg9 : FVec F S256x1024 .f32) (main_arg10 : FVec F S1024 .f32) : IVec S2048 1 × IVec S128x256x2 1 × IVec S32768 1 :=
  let main_v0 : IVec S128x256x2x1 32 := shapeCast S128x256x2x1 main_arg2 shapeCasts_S32768x2_S128x256x2x1
  let main_v1 : IVec S128x1x1x16 32 := shapeCast S128x1x1x16 main_arg4 shapeCasts_S2048_S128x1x1x16
  let main_c : IVec S_ 32 := constantI S_ 32 256#32
  let main_v2 : IVec S128x1x1x16 32 := broadcastInDim S128x1x1x16 ![] bcast_S_S128x1x1x16 main_c
  let main_v3 : IVec S128x1x1x16 32 := muli main_v1 main_v2
  let main_v4 : IVec S128x1x1x16 32 := shapeCast S128x1x1x16 main_arg5 shapeCasts_S2048_S128x1x1x16
  let main_c_0 : IVec S_ 32 := constantI S_ 32 1#32
  let main_v5 : IVec S128x1x1x16 32 := broadcastInDim S128x1x1x16 ![] bcast_S_S128x1x1x16 main_c_0
  let main_v6 : IVec S128x1x1x16 1 := cmpi .eq main_v4 main_v5
  let main_v7 : IVec S128x256x2x16 32 := broadcastInDim S128x256x2x16 ![0, 1, 2, 3] bcast_S128x256x2x1_S128x256x2x16_0_1_2_3 main_v0
  let main_v8 : IVec S128x256x2x16 32 := broadcastInDim S128x256x2x16 ![0, 1, 2, 3] bcast_S128x1x1x16_S128x256x2x16_0_1_2_3 main_v3
  let main_v9 : IVec S128x256x2x16 1 := cmpi .sge main_v7 main_v8
  let main_v10 : IVec S128x256x2x16 1 := broadcastInDim S128x256x2x16 ![0, 1, 2, 3] bcast_S128x1x1x16_S128x256x2x16_0_1_2_3 main_v6
  let main_v11 : IVec S128x256x2x16 1 := andi main_v10 main_v9
  let main_c_1 : IVec S_ 32 := constantI S_ 32 256#32
  let main_v12 : IVec S128x1x1x16 32 := broadcastInDim S128x1x1x16 ![] bcast_S_S128x1x1x16 main_c_1
  let main_v13 : IVec S128x1x1x16 32 := addi main_v3 main_v12
  let main_v14 : IVec S128x256x2x16 32 := broadcastInDim S128x256x2x16 ![0, 1, 2, 3] bcast_S128x256x2x1_S128x256x2x16_0_1_2_3 main_v0
  let main_v15 : IVec S128x256x2x16 32 := broadcastInDim S128x256x2x16 ![0, 1, 2, 3] bcast_S128x1x1x16_S128x256x2x16_0_1_2_3 main_v13
  let main_v16 : IVec S128x256x2x16 1 := cmpi .slt main_v14 main_v15
  let main_v17 : IVec S128x256x2x16 1 := andi main_v11 main_v16
  let main_c_2 : IVec S_ 32 := constantI S_ 32 0#32
  let main_v18 : IVec S2048 32 := broadcastInDim S2048 ![] bcast_S_S2048 main_c_2
  let main_v19 : IVec S2048 1 := cmpi .sge main_arg4 main_v18
  fn_part1 (F := F) main_arg2 main_arg4 main_v17 main_v19
-- ==== Kernel.lean ====
abbrev S4x8192x512 : Shape := ⟨3, ![4, 8192, 512]⟩
abbrev S4x512 : Shape := ⟨2, ![4, 512]⟩
abbrev S512 : Shape := ⟨1, ![512]⟩
abbrev S8x64x64 : Shape := ⟨3, ![8, 64, 64]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x512 : Shape := ⟨2, ![1, 512]⟩
abbrev S1x512x512 : Shape := ⟨3, ![1, 512, 512]⟩
abbrev S8x512 : Shape := ⟨2, ![8, 512]⟩
abbrev S4x576x128 : Shape := ⟨3, ![4, 576, 128]⟩
abbrev S1x64x128 : Shape := ⟨3, ![1, 64, 128]⟩
abbrev S64x128 : Shape := ⟨2, ![64, 128]⟩
abbrev S1x8x128 : Shape := ⟨3, ![1, 8, 128]⟩
abbrev S8x128 : Shape := ⟨2, ![8, 128]⟩
abbrev S3x512 : Shape := ⟨2, ![3, 512]⟩
abbrev S64x512 : Shape := ⟨2, ![64, 512]⟩
abbrev S1x64x512 : Shape := ⟨3, ![1, 64, 512]⟩

abbrev nBuf : Space → Nat
  | .hbm => 44
  | .vmem => 18
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S4x8192x512, .bf16⟩
  | .hbm, ⟨10, _⟩ => ⟨S4x8192x512, .bf16⟩
  | .hbm, ⟨11, _⟩ => ⟨S8x64x1x64, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x1x8x1, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S8x64x1x64, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x64x8x64, .f32⟩
  | .hbm, ⟨35, _⟩ => ⟨S8x64x8x64, .f32⟩
  | .hbm, ⟨36, _⟩ => ⟨S8x64x8x64, .f32⟩
  | .hbm, ⟨37, _⟩ => ⟨S512x512, .f32⟩
  | .hbm, ⟨38, _⟩ => ⟨S512x512, .bf16⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S8x512, .f32⟩
  | .local _ .vmem, ⟨14, _⟩ => ⟨S8x512, .f32⟩
  | .local _ .vmem, ⟨15, _⟩ => ⟨S4x576x128, .f32⟩
  | .local _ .vmem, ⟨16, _⟩ => ⟨S4x576x128, .f32⟩
  | .local _ .vmem, ⟨17, _⟩ => ⟨S4x576x128, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x8192x512 : Shape := ⟨3, ![4, 8192, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S4x8195x512 : Shape := ⟨3, ![4, 8195, 512]⟩
abbrev S1x512 : Shape := ⟨2, ![1, 512]⟩
abbrev S1x1x512 : Shape := ⟨3, ![1, 1, 512]⟩
abbrev S4x8192x8x64 : Shape := ⟨4, ![4, 8192, 8, 64]⟩
abbrev S8x64x4x8192 : Shape := ⟨4, ![8, 64, 4, 8192]⟩
abbrev S8192x4x512 : Shape := ⟨3, ![8192, 4, 512]⟩
abbrev S1x4x512 : Shape := ⟨3, ![1, 4, 512]⟩

abbrev nBuf : Space → Nat
  | .hbm => 154
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S_, .i32⟩
  | 10 => ⟨S_, .f32⟩
  | 11 => ⟨S4x8195x512, .f32⟩
  | 12 => ⟨S4x8192x512, .f32⟩
  | 13 => ⟨S1x512, .f32⟩
  | 14 => ⟨S512, .f32⟩
  | 15 => ⟨S1x1x512, .f32⟩
  | 16 => ⟨S4x8192x512, .f32⟩
  | 17 => ⟨S4x8192x512, .f32⟩
  | 18 => ⟨S_, .f32⟩
  | 19 => ⟨S4x8192x512, .f32⟩
  | 20 => ⟨S4x8192x512, .f32⟩
  | 21 => ⟨S4x8192x512, .f32⟩
  | 22 => ⟨S1x512, .f32⟩
  | 23 => ⟨S512, .f32⟩
  | 24 => ⟨S1x1x512, .f32⟩
  | 25 => ⟨S4x8192x512, .f32⟩
  | 26 => ⟨S4x8192x512, .f32⟩
  | 27 => ⟨S4x8192x512, .f32⟩
  | 28 => ⟨S4x8192x512, .f32⟩
  | 29 => ⟨S1x512, .f32⟩
  | 30 => ⟨S512, .f32⟩
  | 31 => ⟨S1x1x512, .f32⟩
  | 32 => ⟨S4x8192x512, .f32⟩
  | 33 => ⟨S4x8192x512, .f32⟩
  | 34 => ⟨S4x8192x512, .f32⟩
  | 35 => ⟨S4x8192x512, .f32⟩
  | 36 => ⟨S1x512, .f32⟩
  | 37 => ⟨S512, .f32⟩
  | 38 => ⟨S1x1x512, .f32⟩
  | 39 => ⟨S4x8192x512, .f32⟩
  | 40 => ⟨S4x8192x512, .f32⟩
  | 41 => ⟨S4x8192x512, .f32⟩
  | 42 => ⟨S1x1x512, .f32⟩
  | 43 => ⟨S4x8192x512, .f32⟩
  | 44 => ⟨S4x8192x512, .f32⟩
  | 45 => ⟨S4x8192x8x64, .f32⟩
  | 46 => ⟨S8x64x4x8192, .f32⟩
  | 47 => ⟨S4x8192x8x64, .f32⟩
  | 48 => ⟨S4x8192x512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S_, .f32⟩
  | 58 => ⟨S4x8192x512, .f32⟩
  | 59 => ⟨S4x8192x512, .f32⟩
  | 60 => ⟨S8x64x4x8192, .f32⟩
  | 61 => ⟨S4x8192x8x64, .f32⟩
  | 62 => ⟨S4x8192x512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S_, .f32⟩
  | 75 => ⟨S4x8192x512, .f32⟩
  | 76 => ⟨S4x8192x512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S512, .i1⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S1x1x512, .f32⟩
  | 93 => ⟨S4x8192x512, .f32⟩
  | 94 => ⟨S4x8192x512, .f32⟩
  | 95 => ⟨S4x8192x512, .f32⟩
  | 96 => ⟨S_, .f32⟩
  | 97 => ⟨S4x8192x512, .f32⟩
  | 98 => ⟨S4x8192x512, .f32⟩
  | 99 => ⟨S4x8192x512, .f32⟩
  | 100 => ⟨S4x8192x512, .f32⟩
  | 101 => ⟨S4x8192x512, .f32⟩
  | 102 => ⟨S4x8192x512, .f32⟩
  | 103 => ⟨S4x8192x512, .f32⟩
  | 104 => ⟨S_, .f32⟩
  | 105 => ⟨S4x512, .f32⟩
  | 106 => ⟨S8192x4x512, .f32⟩
  | 107 => ⟨S8192x4x512, .f32⟩
  | 108 => ⟨S_, .f32⟩
  | 109 => ⟨S8192x4x512, .f32⟩
  | 110 => ⟨S_, .i32⟩
  | 111 => ⟨S8192x4x512, .f32⟩
  | 112 => ⟨S8192x4x512, .f32⟩
  | 113 => ⟨S_, .i32⟩
  | 114 => ⟨S4x512, .f32⟩
  | 115 => ⟨S8192x4x512, .f32⟩
  | 116 => ⟨S_, .i32⟩
  | 117 => ⟨S_, .i1⟩
  | 118 => ⟨S_, .i32⟩
  | 119 => ⟨S_, .i32⟩
  | 120 => ⟨S1x4x512, .f32⟩
  | 121 => ⟨S4x512, .f32⟩
  | 122 => ⟨S_, .i32⟩
  | 123 => ⟨S_, .i32⟩
  | 124 => ⟨S1x4x512, .f32⟩
  | 125 => ⟨S4x512, .f32⟩
  | 126 => ⟨S4x512, .f32⟩
  | 127 => ⟨S4x512, .f32⟩
  | _ => ⟨S4x8192x512, .f32⟩

abbrev hbmTy0_1 (i : Nat) : BufTy := match i % 128 with
  | 0 => ⟨S1x4x512, .f32⟩
  | 1 => ⟨S_, .i32⟩
  | 2 => ⟨S_, .i32⟩
  | 3 => ⟨S8192x4x512, .f32⟩
  | 4 => ⟨S_, .i32⟩
  | 5 => ⟨S_, .i32⟩
  | 6 => ⟨S4x8192x512, .f32⟩
  | 7 => ⟨S4x8192x512, .f32⟩
  | 8 => ⟨S4x8192x512, .f32⟩
  | 9 => ⟨S_, .f32⟩
  | 10 => ⟨S4x8192x512, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S_, .f32⟩
  | 21 => ⟨S4x8192x512, .f32⟩
  | 22 => ⟨S4x8192x512, .f32⟩
  | 23 => ⟨S4x8192x512, .f32⟩
  | 24 => ⟨S4x8192x512, .f32⟩
  | 25 => ⟨S4x8192x512, .bf16⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_7 : Ref sig .tc := ⟨.hbm, 108, rfl⟩
abbrev main_v76 : Ref sig .tc := ⟨.hbm, 109, rfl⟩
abbrev main_c_8 : Ref sig .tc := ⟨.hbm, 110, rfl⟩
abbrev main_v77_0 : Ref sig .tc := ⟨.hbm, 111, rfl⟩
abbrev main_v77_1 : Ref sig .tc := ⟨.hbm, 112, rfl⟩
abbrev main_v77_2 : Ref sig .tc := ⟨.hbm, 113, rfl⟩
abbrev main_v77_3 : Ref sig .tc := ⟨.hbm, 114, rfl⟩
abbrev main_v77_4 : Ref sig .tc := ⟨.hbm, 115, rfl⟩
abbrev main_while0c_c_17 : Ref sig .tc := ⟨.hbm, 116, rfl⟩
abbrev main_while0c_v94 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v94 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v98 : Ref sig .tc := ⟨.hbm, 131, rfl⟩
abbrev main_while0b_c_17 : Ref sig .tc := ⟨.hbm, 132, rfl⟩
abbrev main_while0b_v99 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_9 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_10 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_11 : Ref sig .tc := ⟨.hbm, 145, rfl⟩
abbrev main_v87 : Ref sig .tc := ⟨.hbm, 146, rfl⟩
abbrev main_v88 : Ref sig .tc := ⟨.hbm, 147, rfl⟩
abbrev main_cst_12 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S4x8192x256 : Shape := ⟨3, ![4, 8192, 256]⟩
abbrev S1024x1024 : Shape := ⟨2, ![1024, 1024]⟩
abbrev S256x1024 : Shape := ⟨2, ![256, 1024]⟩
abbrev S32768x1024 : Shape := ⟨2, ![32768, 1024]⟩
abbrev S32768x256 : Shape := ⟨2, ![32768, 256]⟩
abbrev S1x1024x2816 : Shape := ⟨3, ![1, 1024, 2816]⟩
abbrev S1x2816x1024 : Shape := ⟨3, ![1, 2816, 1024]⟩
abbrev S_ : Shape := ⟨0, ![]⟩
abbrev S64 : Shape := ⟨1, ![64]⟩
abbrev S1 : Shape := ⟨1, ![1]⟩
abbrev S65 : Shape := ⟨1, ![65]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩

abbrev nBuf : Space → Nat
  | .hbm => 28
  | .vmem => 16
  | .smem => 1
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S32768x1024, .f32⟩
  | .hbm, ⟨11, _⟩ => ⟨S32768x256, .f32⟩
  | .hbm, ⟨12, _⟩ => ⟨S1x1024x2816, .f32⟩
  | .hbm, ⟨13, _⟩ => ⟨S1x1024x2816, .bf16⟩
  | .hbm, ⟨14, _⟩ => ⟨S1x1024x2816, .f32⟩
  | .hbm, ⟨15, _⟩ => ⟨S1x1024x2816, .bf16⟩
  | .hbm, ⟨16, _⟩ => ⟨S1x2816x1024, .f32⟩
  | .hbm, ⟨17, _⟩ => ⟨S1x2816x1024, .bf16⟩
  | .hbm, ⟨18, _⟩ => ⟨S_, .i32⟩
  | .hbm, ⟨19, _⟩ => ⟨S64, .i32⟩
  | .hbm, ⟨20, _⟩ => ⟨S_, .i32⟩
  | .hbm, ⟨21, _⟩ => ⟨S1, .i32⟩
  | .hbm, ⟨22, _⟩ => ⟨S1x1024, .f32⟩
  | .hbm, ⟨23, _⟩ => ⟨S1024x1024, .bf16⟩
  | .hbm, ⟨24, _⟩ => ⟨S256x1024, .bf16⟩
  | .hbm, ⟨25, _⟩ => ⟨S1x1024, .f32⟩
  | .hbm, ⟨26, _⟩ => ⟨S1x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | .local _ .smem, ⟨0, _⟩ => ⟨S65, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![64, 1], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_20 : BitVec 32 := 0#32
  let v28 : BitVec 1 := Scalar.cmpi .eq arg1 c0_i32_20
  let v29 : BitVec 32 := Scalar.extui v28
  let c0_i32_21 : BitVec 32 := 0#32
  let v30 : BitVec 1 := Scalar.cmpi .ne v29 c0_i32_21
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S65.size a) (numel1_S1 : S1.numel = 1) (inb_S65_S1_64 : ∀ a, (![64] : Fin 1 → Nat) a + S1.size a ≤ S65.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S65) ![v0.toNat] S1.size (k0_off1_inb i)) numel1_S1
  let c64 : Index := 64#32
  let v2 : BitVec 32 := pf.at 0 (Rect.unit (s := S65) ![64] S1.size inb_S65_S1_64) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S65.size a) (numel1_S1 : S1.numel = 1) (inb_S65_S1_64 : ∀ a, (![64] : Fin 1 → Nat) a + S1.size a ≤ S65.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S65) ![v0.toNat] S1.size (k0_off1_inb i)) numel1_S1
  let c64 : Index := 64#32
  let v2 : BitVec 32 := pf.at 0 (Rect.unit (s := S65) ![64] S1.size inb_S65_S1_64) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_4 (k0_off1_inb : ∀ i : grid0.Coords, ∀ a, (k0_off1 i) a + S1.size a ≤ S65.size a) (numel1_S1 : S1.numel = 1) (inb_S65_S1_64 : ∀ a, (![64] : Fin 1 → Nat) a + S1.size a ≤ S65.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S65) ![v0.toNat] S1.size (k0_off1_inb i)) numel1_S1
  let c64 : Index := 64#32
  let v2 : BitVec 32 := pf.at 0 (Rect.unit (s := S65) ![64] S1.size inb_S65_S1_64) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S4x8192x256 : Shape := ⟨3, ![4, 8192, 256]⟩
abbrev S1024x1024 : Shape := ⟨2, ![1024, 1024]⟩
abbrev S256x1024 : Shape := ⟨2, ![256, 1024]⟩
abbrev S32768x1024 : Shape := ⟨2, ![32768, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S32768x1024, .f32⟩
  | .hbm, ⟨11, _⟩ => ⟨S32768x256, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel3.lean ====
abbrev S69632x1024 : Shape := ⟨2, ![69632, 1024]⟩
abbrev S136 : Shape := ⟨1, ![136]⟩
abbrev S1 : Shape := ⟨1, ![1]⟩
abbrev S1x1024 : Shape := ⟨2, ![1, 1024]⟩
abbrev S8x1024x3584 : Shape := ⟨3, ![8, 1024, 3584]⟩
abbrev S8x3584x1024 : Shape := ⟨3, ![8, 3584, 1024]⟩
abbrev S137 : Shape := ⟨1, ![137]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 11
  | .vmem => 13
  | .smem => 1
  | _ => 0

abbrev bufTy : (tb : Table) → Fin (tcTables nBuf tb) → BufTy
  | .hbm, ⟨0, _⟩ => ⟨S69632x1024, .bf16⟩
  | .hbm, ⟨1, _⟩ => ⟨S136, .i32⟩
  | .hbm, ⟨2, _⟩ => ⟨S1, .i32⟩
  | .hbm, ⟨3, _⟩ => ⟨S1x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1792x1024, .bf16⟩
  | .local _ .vmem, ⟨8, _⟩ => ⟨S1x1792x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S137, .i32⟩
  | _, _ => ⟨S69632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S137.size a) (numel1_S1 : S1.numel = 1) (inb_S137_S1_136 : ∀ a, (![136] : Fin 1 → Nat) a + S1.size a ≤ S137.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c136 : Index := 136#32
  let v2 : BitVec 32 := pf.at 0 (Rect.unit (s := S137) ![136] S1.size inb_S137_S1_136) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S137.size a) (numel1_S1 : S1.numel = 1) (inb_S137_S1_136 : ∀ a, (![136] : Fin 1 → Nat) a + S1.size a ≤ S137.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c136 : Index := 136#32
  let v2 : BitVec 32 := pf.at 0 (Rect.unit (s := S137) ![136] S1.size inb_S137_S1_136) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S137.size a) (numel1_S1 : S1.numel = 1) (inb_S137_S1_136 : ∀ a, (![136] : Fin 1 → Nat) a + S1.size a ≤ S137.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c136 : Index := 136#32
  let v2 : BitVec 32 := pf.at 0 (Rect.unit (s := S137) ![136] S1.size inb_S137_S1_136) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S69632x1024 : Shape := ⟨2, ![69632, 1024]⟩
abbrev S136 : Shape := ⟨1, ![136]⟩
abbrev S1 : Shape := ⟨1, ![1]⟩
abbrev S1x1024 : Shape := ⟨2, ![1, 1024]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S_ : Shape := ⟨0, ![]⟩
abbrev S136x1 : Shape := ⟨2, ![136, 1]⟩
abbrev S136x1024x3584 : Shape := ⟨3, ![136, 1024, 3584]⟩
abbrev S136x3584x1024 : Shape := ⟨3, ![136, 3584, 1024]⟩
abbrev S136x512x3584 : Shape := ⟨3, ![136, 512, 3584]⟩
abbrev S136x1x1 : Shape := ⟨3, ![136, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S69632x1024, .bf16⟩
  | .hbm, ⟨1, _⟩ => ⟨S136, .i32⟩
  | .hbm, ⟨2, _⟩ => ⟨S1, .i32⟩
  | .hbm, ⟨3, _⟩ => ⟨S1x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S69632x1024, .f32⟩
  | .hbm, ⟨8, _⟩ => ⟨S136x512x1024, .f32⟩
  | .hbm, ⟨9, _⟩ => ⟨S_, .i32⟩
  | .hbm, ⟨10, _⟩ => ⟨S136, .i32⟩
  | .hbm, ⟨11, _⟩ => ⟨S136, .i1⟩
  | .hbm, ⟨12, _⟩ => ⟨S_, .i32⟩
  | .hbm, ⟨13, _⟩ => ⟨S136, .i32⟩
  | .hbm, ⟨14, _⟩ => ⟨S136, .i32⟩
  | .hbm, ⟨15, _⟩ => ⟨S136, .i32⟩
  | .hbm, ⟨16, _⟩ => ⟨S136x1, .i32⟩
  | .hbm, ⟨17, _⟩ => ⟨S136x1024x3584, .f32⟩
  | .hbm, ⟨18, _⟩ => ⟨S_, .i32⟩
  | .hbm, ⟨19, _⟩ => ⟨S136, .i32⟩
  | .hbm, ⟨20, _⟩ => ⟨S136, .i1⟩
  | .hbm, ⟨21, _⟩ => ⟨S_, .i32⟩
  | .hbm, ⟨22, _⟩ => ⟨S136, .i32⟩
  | .hbm, ⟨23, _⟩ => ⟨S136, .i32⟩
  | .hbm, ⟨24, _⟩ => ⟨S136, .i32⟩
  | .hbm, ⟨25, _⟩ => ⟨S136x1, .i32⟩
  | .hbm, ⟨26, _⟩ => ⟨S136x1024x3584, .f32⟩
  | .hbm, ⟨27, _⟩ => ⟨S_, .i32⟩
  | .hbm, ⟨28, _⟩ => ⟨S136, .i32⟩
  | .hbm, ⟨29, _⟩ => ⟨S136, .i1⟩
  | .hbm, ⟨30, _⟩ => ⟨S_, .i32⟩
  | .hbm, ⟨31, _⟩ => ⟨S136, .i32⟩
  | .hbm, ⟨32, _⟩ => ⟨S136, .i32⟩
  | .hbm, ⟨33, _⟩ => ⟨S136, .i32⟩
  | .hbm, ⟨34, _⟩ => ⟨S136x1, .i32⟩
  | .hbm, ⟨35, _⟩ => ⟨S136x3584x1024, .f32⟩
  | .hbm, ⟨36, _⟩ => ⟨S136x512x3584, .f32⟩
  | .hbm, ⟨37, _⟩ => ⟨S136x512x3584, .f32⟩
  | .hbm, ⟨38, _⟩ => ⟨S136x512x3584, .f32⟩
  | .hbm, ⟨39, _⟩ => ⟨S_, .f32⟩
  | .hbm, ⟨40, _⟩ => ⟨S136x512x3584, .f32⟩
  | .hbm, ⟨41, _⟩ => ⟨S136x512x3584, .f32⟩
  | .hbm, ⟨42, _⟩ => ⟨S_, .f32⟩
  | .hbm, ⟨43, _⟩ => ⟨S136x512x3584, .f32⟩
  | .hbm, ⟨44, _⟩ => ⟨S136x512x3584, .f32⟩
  | .hbm, ⟨45, _⟩ => ⟨S136x512x3584, .f32⟩
  | .hbm, ⟨46, _⟩ => ⟨S136x512x3584, .f32⟩
  | .hbm, ⟨47, _⟩ => ⟨S136x512x3584, .f32⟩
  | .hbm, ⟨48, _⟩ => ⟨S136x512x1024, .f32⟩
  | .hbm, ⟨49, _⟩ => ⟨S136, .i32⟩
  | .hbm, ⟨50, _⟩ => ⟨S136, .i32⟩
  | .hbm, ⟨51, _⟩ => ⟨S136, .i1⟩
  | .hbm, ⟨52, _⟩ => ⟨S136x1x1, .i1⟩
  | .hbm, ⟨53, _⟩ => ⟨S_, .f32⟩
  | .hbm, ⟨54, _⟩ => ⟨S_, .f32⟩
  | .hbm, ⟨55, _⟩ => ⟨S136x512x1024, .i1⟩
  | .hbm, ⟨56, _⟩ => ⟨S136x512x1024, .f32⟩
  | .hbm, ⟨57, _⟩ => ⟨S136x512x1024, .f32⟩
  | .hbm, ⟨58, _⟩ => ⟨S69632x1024, .f32⟩
  | .hbm, ⟨59, _⟩ => ⟨S69632x1024, .bf16⟩
  | _, _ => ⟨S69632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Kernel5.lean ====
abbrev S4x8192x512 : Shape := ⟨3, ![4, 8192, 512]⟩
abbrev S4x8192x1024 : Shape := ⟨3, ![4, 8192, 1024]⟩
abbrev S512 : Shape := ⟨1, ![512]⟩
abbrev S1024x1024 : Shape := ⟨2, ![1024, 1024]⟩
abbrev S4x512x8192 : Shape := ⟨3, ![4, 512, 8192]⟩
abbrev S512x1024 : Shape := ⟨2, ![512, 1024]⟩
abbrev S1x512 : Shape := ⟨2, ![1, 512]⟩
abbrev S1x512x1024 : Shape := ⟨3, ![1, 512, 1024]⟩
abbrev S1x1024x512 : Shape := ⟨3, ![1, 1024, 512]⟩
abbrev S1x1024x1024 : Shape := ⟨3, ![1, 1024, 1024]⟩
abbrev S1024 : Shape := ⟨1, ![1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4x512x8192, .f32⟩
  | .hbm, ⟨7, _⟩ => ⟨S4x512x8192, .bf16⟩
  | .hbm, ⟨8, _⟩ => ⟨S4x8192x512, .bf16⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x512, .f32⟩
  | .hbm, ⟨14, _⟩ => ⟨S1x512, .f32⟩
  | .hbm, ⟨15, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024x1024, .f32⟩
  | .local _ .vmem, ⟨11, _⟩ => ⟨S1x1024x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4x8192x512 : Shape := ⟨3, ![4, 8192, 512]⟩
abbrev S4x8192x1024 : Shape := ⟨3, ![4, 8192, 1024]⟩
abbrev S512 : Shape := ⟨1, ![512]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4x8192x512, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x512, .f32⟩
  | .hbm, ⟨18, _⟩ => ⟨S4x8192x512, .f32⟩
  | .hbm, ⟨19, _⟩ => ⟨S1x1x512, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x512, .f32⟩
  | .hbm, ⟨34, _⟩ => ⟨S4x8192x512, .f32⟩
  | .hbm, ⟨35, _⟩ => ⟨S1x1x512, .f32⟩
  | .hbm, ⟨36, _⟩ => ⟨S4x8192x512, .f32⟩
  | .hbm, ⟨37, _⟩ => ⟨S4x8192x512, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel6.lean ====
abbrev S32768x1024 : Shape := ⟨2, ![32768, 1024]⟩
abbrev S69632x1024 : Shape := ⟨2, ![69632, 1024]⟩
abbrev S32768x2 : Shape := ⟨2, ![32768, 2]⟩
abbrev S2048 : Shape := ⟨1, ![2048]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S256x2 : Shape := ⟨2, ![256, 2]⟩
abbrev S1 : Shape := ⟨1, ![1]⟩
abbrev S256x256 : Shape := ⟨2, ![256, 256]⟩
abbrev S256x1 : Shape := ⟨2, ![256, 1]⟩
abbrev S256 : Shape := ⟨1, ![256]⟩

abbrev nBuf : Space → Nat
  | .hbm => 15
  | .vmem => 46
  | .smem => 2
  | _ => 0

abbrev bufTy : (tb : Table) → Fin (tcTables nBuf tb) → BufTy
  | .hbm, ⟨0, _⟩ => ⟨S32768x1024, .f32⟩
  | .hbm, ⟨1, _⟩ => ⟨S69632x1024, .bf16⟩
  | .hbm, ⟨2, _⟩ => ⟨S32768x2, .i32⟩
  | .hbm, ⟨3, _⟩ => ⟨S32768x2, .f32⟩
  | .hbm, ⟨4, _⟩ => ⟨S4x8192x256, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S32768x256, .f32⟩
  | .hbm, ⟨10, _⟩ => ⟨S1x1024, .f32⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x2, .i32⟩
  | .local _ .vmem, ⟨3, _⟩ => ⟨S256x2, .i32⟩
  | .local _ .vmem, ⟨4, _⟩ => ⟨S256x2, .f32⟩
  | .local _ .vmem, ⟨5, _⟩ => ⟨S256x2, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x256, .f32⟩
  | .local _ .vmem, ⟨39, _⟩ => ⟨S256x256, .f32⟩
  | .local _ .vmem, ⟨40, _⟩ => ⟨S1x1024, .f32⟩
  | .local _ .vmem, ⟨41, _⟩ => ⟨S1024x1024, .bf16⟩
  | .local _ .vmem, ⟨42, _⟩ => ⟨S256x1024, .bf16⟩
  | .local _ .vmem, ⟨43, _⟩ => ⟨S1x1024, .f32⟩
  | .local _ .vmem, ⟨44, _⟩ => ⟨S256x1024, .f32⟩
  | .local _ .vmem, ⟨45, _⟩ => ⟨S256x1024, .f32⟩
  | .local _ .smem, ⟨0, _⟩ => ⟨S2048, .i32⟩
  | .local _ .smem, ⟨1, _⟩ => ⟨S2048, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg21_0 : Ref sig .tc := ⟨.vmem, 41, rfl⟩
abbrev cc0_stg22_0 : Ref sig .tc := ⟨.vmem, 42, rfl⟩
abbrev cc0_stg23_0 : Ref sig .tc := ⟨.vmem, 43, rfl⟩
abbrev cc0_stg24_0 : Ref sig .tc := ⟨.vmem, 44, rfl⟩
abbrev cc0_stg24_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem21_0 : DmaSem sig := 41
abbrev cc0_sem22_0 : DmaSem sig := 42
abbrev cc0_sem23_0 : DmaSem sig := 43
abbrev cc0_sem24_0 : DmaSem sig := 44
abbrev cc0_sem24_1 : DmaSem sig := 45

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c0_i32_0 : BitVec 32 := 0#32
  let c0_i32_1 : BitVec 32 := 0#32
  ![v3.toNat, c0_i32_0.toNat]

def cc0_transform_4 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c0_i32 : BitVec 32 := 0#32
  let c0_i32_0 : BitVec 32 := 0#32
  ![v3.toNat, c0_i32.toNat]

def cc0_transform_5 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c0_i32 : BitVec 32 := 0#32
  let c0_i32_0 : BitVec 32 := 0#32
  ![v3.toNat, c0_i32.toNat]

def cc0_transform_6 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c0_i32 : BitVec 32 := 0#32
  let c0_i32_0 : BitVec 32 := 0#32
  ![v3.toNat, c0_i32.toNat]

def cc0_transform_7 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c0_i32 : BitVec 32 := 0#32
  let c0_i32_0 : BitVec 32 := 0#32
  ![v3.toNat, c0_i32.toNat]

def cc0_transform_8 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c0_i32 : BitVec 32 := 0#32
  let c0_i32_0 : BitVec 32 := 0#32
  ![v3.toNat, c0_i32.toNat]

def cc0_transform_9 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c0_i32 : BitVec 32 := 0#32
  let c0_i32_0 : BitVec 32 := 0#32
  ![v3.toNat, c0_i32.toNat]

def cc0_transform_10 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c0_i32 : BitVec 32 := 0#32
  let c0_i32_0 : BitVec 32 := 0#32
  ![v3.toNat, c0_i32.toNat]

def cc0_transform_11 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S2048) ![v2.toNat] S1.size (k0_off1_inb i 8)) numel1_S1
  let c0_i32 : BitVec 32 := 0#32
  let c0_i32_0 : BitVec 32 := 0#32
  ![v3.toNat, c0_i32.toNat]

def cc0_transform_12 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S2048) ![v2.toNat] S1.size (k0_off1_inb i 9)) numel1_S1
  let c0_i32 : BitVec 32 := 0#32
  let c0_i32_0 : BitVec 32 := 0#32
  ![v3.toNat, c0_i32.toNat]

def cc0_transform_13 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S2048) ![v2.toNat] S1.size (k0_off1_inb i 10)) numel1_S1
  let c0_i32 : BitVec 32 := 0#32
  let c0_i32_0 : BitVec 32 := 0#32
  ![v3.toNat, c0_i32.toNat]

def cc0_transform_14 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S2048) ![v2.toNat] S1.size (k0_off1_inb i 11)) numel1_S1
  let c0_i32 : BitVec 32 := 0#32
  let c0_i32_0 : BitVec 32 := 0#32
  ![v3.toNat, c0_i32.toNat]

def cc0_transform_15 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S2048) ![v2.toNat] S1.size (k0_off1_inb i 12)) numel1_S1
  let c0_i32 : BitVec 32 := 0#32
  let c0_i32_0 : BitVec 32 := 0#32
  ![v3.toNat, c0_i32.toNat]

def cc0_transform_16 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S2048) ![v2.toNat] S1.size (k0_off1_inb i 13)) numel1_S1
  let c0_i32 : BitVec 32 := 0#32
  let c0_i32_0 : BitVec 32 := 0#32
  ![v3.toNat, c0_i32.toNat]

def cc0_transform_17 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S2048) ![v2.toNat] S1.size (k0_off1_inb i 14)) numel1_S1
  let c0_i32 : BitVec 32 := 0#32
  let c0_i32_0 : BitVec 32 := 0#32
  ![v3.toNat, c0_i32.toNat]

def cc0_transform_18 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S2048) ![v2.toNat] S1.size (k0_off1_inb i 15)) numel1_S1
  let c0_i32 : BitVec 32 := 0#32
  let c0_i32_0 : BitVec 32 := 0#32
  ![v3.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference6Ideal.lean ====
abbrev S32768x1024 : Shape := ⟨2, ![32768, 1024]⟩
abbrev S69632x1024 : Shape := ⟨2, ![69632, 1024]⟩
abbrev S32768x2 : Shape := ⟨2, ![32768, 2]⟩
abbrev S2048 : Shape := ⟨1, ![2048]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S32768x1 : Shape := ⟨2, ![32768, 1]⟩
abbrev S32768 : Shape := ⟨1, ![32768]⟩
abbrev S_ : Shape := ⟨0, ![]⟩
abbrev S1x1024 : Shape := ⟨2, ![1, 1024]⟩
abbrev S32768x256 : Shape := ⟨2, ![32768, 256]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S69632x1024, .bf16⟩
  | .hbm, ⟨2, _⟩ => ⟨S32768x2, .i32⟩
  | .hbm, ⟨3, _⟩ => ⟨S32768x2, .f32⟩
  | .hbm, ⟨4, _⟩ => ⟨S2048, .i32⟩
  | .hbm, ⟨5, _⟩ => ⟨S2048, .i32⟩
  | .hbm, ⟨6, _⟩ => ⟨S4x8192x256, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S69632x1024, .f32⟩
  | .hbm, ⟨12, _⟩ => ⟨S32768x1, .f32⟩
  | .hbm, ⟨13, _⟩ => ⟨S32768x1, .i32⟩
  | .hbm, ⟨14, _⟩ => ⟨S32768, .i32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1, .f32⟩
  | .hbm, ⟨28, _⟩ => ⟨S32768x1, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x256, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.DenseFfnTable.lean ====
/- The table the dense block's weight windows read: the host fills it with zeros, so every weight window holds the
   one weight matrix at every grid point. -/
module

public import proofs.«01_k».proof.Proof.Gen.Kernel2.Frame
public import proofs.«01_k».proof.Proof.Gen.Kernel2Ideal.Frame
public import Idealize.ShloMosaic.Lib.Pointwise

@[expose] public section

set_option maxRecDepth 16384

noncomputable section

namespace Cert.Dense

open Idealize.ShloMosaic

/-- A block that is its whole array lies inside it and moves whole words. -/
theorem whole_block (S : Shape) (p : Nat) (ix : Fin S.rank → Nat) (hix : ix = fun _ => 0) :
    ∃ h : (∀ a, (ix a + 1) * S.size a ≤ S.size a), (Rect.block (s := S) S.size ix h).WholeWords p := by
  subst hix
  exact ⟨fun a => by simp, Rect.wholeWords_block_self S p _⟩

end Cert.Dense

namespace Cert.Kernel2Ideal.Dense

open Idealize.ShloMosaic Idealize.ShloMosaic.TcCoe
open Cert.Kernel2Ideal Cert.Kernel2Ideal.Gen

variable {F : FTy → Type} [FloatOps F]
variable (m : (ℓ : Loc nD τ sig) → Buf (Elt F) ℓ)

/-- The table the region finds: 64 zeros and then the number of row tiles. -/
theorem table_eq : (tbl m 0 : S65.Idx → BitVec 32)
    = concatenate S65 0 [⟨S64, broadcastInDim S64 ![] bcast_S_S64 (constantI S_ 32 0#32)⟩, ⟨S1, shapeCast S1 (constantI S_ 32 64#32) shapeCasts_S_S1⟩] concatenates_S64_S1_S65_d0 := by
  show V m 0 main_v10 = _
  dsimp only [V, hostOps0]
  after_results
  rfl

/-- Each of the first 64 words of the table is zero. -/
theorem word_zero (y : S65.Idx) (hy : (y 0).val < 64) : (tbl m 0 : S65.Idx → BitVec 32) y = 0#32 := by
  rw [table_eq m]
  exact concatenate_pair_apply_left _ _ _ concatenates_S64_S1_S65_d0 y rfl (ix1 ⟨(y 0).val, hy⟩) fun b => by
    obtain rfl : b = 0 := Subsingleton.elim _ _; rfl

/-- A grid point's second coordinate is zero, so the tile a weight window selects is tile zero. -/
theorem tile_zero (i : grid0.Coords) (v : BitVec 32) :
    Scalar.select (Scalar.cmpi .slt (BitVec.ofNat 32 (i 0).val) v) (BitVec.ofNat 32 (i 1).val) 0#32 = 0#32 := by
  have h1 : (i 1).val < 1 := (i 1).isLt
  rw [show (i 1).val = 0 by omega]
  unfold Scalar.select; split <;> rfl

/-- A weight window's block index reads a zero of the table. -/
theorem entry_zero (i : grid0.Coords) (h : ∀ a, (![(Scalar.indexCast (BitVec.ofNat 32 (i 0).val) : Index).toNat] : Fin 1 → Nat) a + S1.size a ≤ S65.size a) (h1 : S1.numel = 1) :
    (tbl m).at 0 (Rect.unit (s := S65) ![(Scalar.indexCast (BitVec.ofNat 32 (i 0).val) : Index).toNat] S1.size h) h1 = 0#32 := by
  have h0 : (i 0).val < 64 := (i 0).isLt
  refine word_zero m _ ?_
  show (BitVec.ofNat 32 (i 0).val).toNat + 1 * 0 < 64
  rw [BitVec.toNat_ofNat]; omega

/-- The weight windows' block is block zero at every grid point. -/
theorem transform2_zero (i : grid0.Coords) :
    cc0_transform_2 k0_off1_inb numel1_S1 inb_S65_S1_64 (tbl m) i = fun _ => 0 := by
  have e := entry_zero m i (k0_off1_inb i) numel1_S1
  have t := tile_zero i ((tbl m).at 0 (Rect.unit (s := S65) ![64] S1.size inb_S65_S1_64) numel1_S1)
  exact (congrArg₂ (fun x y : BitVec 32 => (![x.toNat, (0#32).toNat, y.toNat] : Fin 3 → Nat)) e t).trans
    (funext fun a => by fin_cases a <;> rfl)

theorem transform3_zero (i : grid0.Coords) :
    cc0_transform_3 k0_off1_inb numel1_S1 inb_S65_S1_64 (tbl m) i = fun _ => 0 := transform2_zero m i

theorem transform4_zero (i : grid0.Coords) :
    cc0_transform_4 k0_off1_inb numel1_S1 inb_S65_S1_64 (tbl m) i = fun _ => 0 := by
  have e := entry_zero m i (k0_off1_inb i) numel1_S1
  have t := tile_zero i ((tbl m).at 0 (Rect.unit (s := S65) ![64] S1.size inb_S65_S1_64) numel1_S1)
  exact (congrArg₂ (fun x y : BitVec 32 => (![x.toNat, y.toNat, (0#32).toNat] : Fin 3 → Nat)) e t).trans
    (funext fun a => by fin_cases a <;> rfl)

/-- The table's side condition of the pipeline holds of the table the host prepares. -/
theorem ok : Ok m :=
  ⟨fun i => (Cert.Dense.whole_block S1x1024x2816 _ _ (transform2_zero m i)).imp fun _ h => .inr h,
    fun i => (Cert.Dense.whole_block S1x1024x2816 _ _ (transform3_zero m i)).imp fun _ h => .inr h,
    fun i => (Cert.Dense.whole_block S1x2816x1024 _ _ (transform4_zero m i)).imp fun _ h => .inr h⟩

end Cert.Kernel2Ideal.Dense

namespace Cert.Kernel2.Dense

open Idealize.ShloMosaic
open Cert.Kernel2.Gen

/-- The program as written has the same index arithmetic, so its windows also stay inside. -/
theorem ok {F : FTy → Type} [FloatOps F] (m : (ℓ : Loc Cert.Kernel2.nD Cert.Kernel2.τ Cert.Kernel2.sig) → Buf (Elt F) ℓ) : Ok m :=
  Cert.Kernel2Ideal.Dense.ok (F := F) m

end Cert.Kernel2.Dense

end
-- ==== Proof.DenseFfnRows.lean ====
/- The dense feed-forward block's payloads, row by row: a tile of 512 rows of the kernel's arithmetic is the
   reference's arithmetic at the rows the tile holds. Stated for any placement `ρ` of the tile's rows, at `Ideal`. -/
module

public import proofs.«01_k».proof.Proof.Gen.Kernel2Ideal.Skeleton
public import proofs.«01_k».proof.Proof.Gen.Reference2Ideal.Read
public import Idealize.ShloMosaic.Lib.Pointwise

@[expose] public section

set_option maxRecDepth 16384

noncomputable section

namespace Cert.Proof.Dense

open Idealize.ShloMosaic
open Cert.Kernel2Ideal.Gen (k0_pay1 k0_pay2 k0_pay3 k0_pay4 k0_pay5)
open Cert.Reference2Ideal.Read

/-- Zero minus a number is its negation. -/
theorem zero_sub_eq (a : EReal) : (0 : EReal) - a = -a := by rw [sub_eq_add_neg, zero_add]

variable (ρ : Fin 512 → Fin 32768)
variable (x0 : (⟨Cert.Reference2Ideal.S4x8192x1024, .f32⟩ : BufTy).Contents (Elt Ideal)) (x1 : (⟨Cert.Reference2Ideal.S1024, .f32⟩ : BufTy).Contents (Elt Ideal))

/-- The normalised rows of a tile are the reference's normalised rows. -/
theorem norm_rows (xb : Vec Ideal Cert.Kernel2Ideal.S512x1024 .f32) (gb : Vec Ideal Cert.Kernel2Ideal.S1x1024 .f32)
    (hx : ∀ r k, xb (ix2 r k) = val_main_v0 (F := Ideal) x0 (ix2 (ρ r) k)) (hg : ∀ k, gb (ix2 0 k) = x1 (ix1 k))
    (r : Fin 512) (k : Fin 1024) :
    k0_pay3 (F := Ideal) xb gb (ix2 r k) = val_main_v14 (F := Ideal) x0 x1 (ix2 (ρ r) k) := by
  pointwise [k0_pay3, k0_pay2, val_main_v14, val_main_v13, val_main_v12, val_main_v11, val_main_v10, val_main_v9, val_main_v8, val_main_v7, val_main_v6, val_main_v5, val_main_v4, val_main_v3, val_main_v2, val_main_cst, val_main_cst_0, val_main_cst_1]
  simp only [hx, hg]

variable (x2 x3 : (⟨Cert.Reference2Ideal.S1024x2816, .f32⟩ : BufTy).Contents (Elt Ideal)) (x4 : (⟨Cert.Reference2Ideal.S2816x1024, .f32⟩ : BufTy).Contents (Elt Ideal))

/-- The gated product and the residual sum of a tile are the reference's. -/
theorem ffn_rows (hn : Vec Ideal Cert.Kernel2Ideal.S512x1024 .bf16) (wg wu : Vec Ideal Cert.Kernel2Ideal.S1x1024x2816 .bf16)
    (acc : Vec Ideal Cert.Kernel2Ideal.S512x1024 .f32) (wd : Vec Ideal Cert.Kernel2Ideal.S1x2816x1024 .bf16)
    (hh : ∀ r k, hn (ix2 r k) = val_main_v14 (F := Ideal) x0 x1 (ix2 (ρ r) k))
    (ha : ∀ r k, acc (ix2 r k) = val_main_v0 (F := Ideal) x0 (ix2 (ρ r) k))
    (hwg : ∀ a b, wg (ix3 0 a b) = x2 (ix2 a b)) (hwu : ∀ a b, wu (ix3 0 a b) = x3 (ix2 a b)) (hwd : ∀ a b, wd (ix3 0 a b) = x4 (ix2 a b))
    (r : Fin 512) (k : Fin 1024) :
    k0_pay5 (F := Ideal) hn wg wu acc wd (ix2 r k) = val_main_v20 (F := Ideal) x0 x1 x2 x3 x4 (ix2 (ρ r) k) := by
  pointwise [k0_pay5, val_main_v20, val_main_v19, val_main_v18, val_main_v17, val_main_v16, val_main_v15, val_main_call0_v0, val_main_call0_v1, val_main_call0_v2, val_main_call0_v3, val_main_call0_v4, val_main_call0_v5, val_main_call0_cst, val_main_call0_cst_0]
  simp only [hh, ha, hwg, hwu, hwd, zero_sub_eq]

variable (x5 : (⟨Cert.Reference2Ideal.S4x8192x256, .f32⟩ : BufTy).Contents (Elt Ideal)) (x6 : (⟨Cert.Reference2Ideal.S1024, .f32⟩ : BufTy).Contents (Elt Ideal))
  (x7 : (⟨Cert.Reference2Ideal.S1024x1024, .f32⟩ : BufTy).Contents (Elt Ideal)) (x8 : (⟨Cert.Reference2Ideal.S256x1024, .f32⟩ : BufTy).Contents (Elt Ideal))

/-- The per-layer embedding gate of a tile is the reference's. -/
theorem ple_rows (acc : Vec Ideal Cert.Kernel2Ideal.S512x1024 .f32) (gb : Vec Ideal Cert.Kernel2Ideal.S1x1024 .f32)
    (wg : Vec Ideal Cert.Kernel2Ideal.S1024x1024 .bf16) (p : Vec Ideal Cert.Kernel2Ideal.S512x256 .f32) (wp : Vec Ideal Cert.Kernel2Ideal.S256x1024 .bf16)
    (ha : ∀ r k, acc (ix2 r k) = val_main_v20 (F := Ideal) x0 x1 x2 x3 x4 (ix2 (ρ r) k))
    (hg : ∀ k, gb (ix2 0 k) = x6 (ix1 k)) (hwg : ∀ a b, wg (ix2 a b) = x7 (ix2 a b))
    (hp : ∀ r k, p (ix2 r k) = val_main_v1 (F := Ideal) x5 (ix2 (ρ r) k)) (hwp : ∀ a b, wp (ix2 a b) = x8 (ix2 a b))
    (r : Fin 512) (k : Fin 1024) :
    k0_pay1 (F := Ideal) acc gb wg p wp (ix2 r k) = val_main_v43 (F := Ideal) x0 x1 x2 x3 x4 x5 x6 x7 x8 (ix2 (ρ r) k) := by
  pointwise [k0_pay1, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4, val_main_cst_5, val_main_cst_6]
  simp only [ha, hg, hwg, hp, hwp, zero_sub_eq]

/-- A whole tile: what the kernel stores for 512 rows is the reference's result at those rows. -/
theorem tile_rows (xb : Vec Ideal Cert.Kernel2Ideal.S512x1024 .f32) (gb : Vec Ideal Cert.Kernel2Ideal.S1x1024 .f32)
    (wg wu : Vec Ideal Cert.Kernel2Ideal.S1x1024x2816 .bf16) (wd : Vec Ideal Cert.Kernel2Ideal.S1x2816x1024 .bf16)
    (p : Vec Ideal Cert.Kernel2Ideal.S512x256 .f32) (pg : Vec Ideal Cert.Kernel2Ideal.S1x1024 .f32)
    (pw : Vec Ideal Cert.Kernel2Ideal.S1024x1024 .bf16) (pp : Vec Ideal Cert.Kernel2Ideal.S256x1024 .bf16)
    (hx : ∀ r k, xb (ix2 r k) = val_main_v0 (F := Ideal) x0 (ix2 (ρ r) k)) (hg : ∀ k, gb (ix2 0 k) = x1 (ix1 k))
    (hwg : ∀ a b, wg (ix3 0 a b) = x2 (ix2 a b)) (hwu : ∀ a b, wu (ix3 0 a b) = x3 (ix2 a b)) (hwd : ∀ a b, wd (ix3 0 a b) = x4 (ix2 a b))
    (hp : ∀ r k, p (ix2 r k) = val_main_v1 (F := Ideal) x5 (ix2 (ρ r) k)) (hpg : ∀ k, pg (ix2 0 k) = x6 (ix1 k))
    (hpw : ∀ a b, pw (ix2 a b) = x7 (ix2 a b)) (hpp : ∀ a b, pp (ix2 a b) = x8 (ix2 a b)) (r : Fin 512) (k : Fin 1024) :
    k0_pay1 (F := Ideal) (k0_pay5 (k0_pay3 xb gb) wg wu (k0_pay4 xb) wd) pg pw p pp (ix2 r k)
      = val_main_v43 (F := Ideal) x0 x1 x2 x3 x4 x5 x6 x7 x8 (ix2 (ρ r) k) :=
  ple_rows ρ x0 x1 x2 x3 x4 x5 x6 x7 x8 _ pg pw p pp
    (ffn_rows ρ x0 x1 x2 x3 x4 _ wg wu _ wd (norm_rows ρ x0 x1 xb gb hx hg)
      (fun r k => by
        have h : k0_pay4 (F := Ideal) xb (ix2 r k) = xb (ix2 r k) := by pointwise [k0_pay4, k0_pay2]
        exact h.trans (hx r k)) hwg hwu hwd)
    hpg hpw hp hpp r k

end Cert.Proof.Dense

end
-- ==== Proof.DenseFfnValue.lean ====
/- What the dense block's kernel computes: its array after the run, tile by tile, is the reference's result. -/
module

public import proofs.«01_k».proof.Proof.DenseFfnTable
public import proofs.«01_k».proof.Proof.DenseFfnRows
public import Idealize.ShloMosaic.Lib.VecWindow

@[expose] public section

set_option maxRecDepth 16384

noncomputable section

namespace Cert.Kernel2Ideal.Dense

open Idealize.ShloMosaic Idealize.ShloMosaic.TcCoe Idealize.ShloMosaic.Tactic Idealize.SL.Sem
open Idealize.ShloMosaic.Pipeline (Dat Window)
open Cert.Kernel2Ideal Cert.Kernel2Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]

/-- What a grid point leaves in the output's block: the two halves of the layer applied to the point's input blocks. -/
theorem out_A (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x2816x1024 .bf16) (harg7 : arg7.IsWhole) (arg8 : Memref sig .tc .vmem S512x256 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (hc0 : cond0_0 i) (hc1 : cond0_1 i)
    (x0 : Vec F S512x1024 .f32) (x1 : Vec F S1x1024 .f32) (x2 : Vec F S1x1024x2816 .bf16) (x3 : Vec F S1x1024x2816 .bf16) (x4 : Vec F S1x2816x1024 .bf16) (x5 : Vec F S512x256 .f32) (x6 : Vec F S1x1024 .f32) (x7 : Vec F S1024x1024 .bf16) (x8 : Vec F S256x1024 .bf16) (x9 : Vec F S1x1024 .f32) (xt0 : TbBuf0 (F := F) c tbM0_0) :
    out0_A_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xt0
      = k0_pay1 (k0_pay5 (k0_pay3 x0 x1) x2 x3 (k0_pay4 x0) x4) x6 x7 x5 x8 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xt0)]
  unfold kernelRun0_A
  dsimp only
  sl_unfold_words
  simp only [View.canon_unit_zero (S := S512x1024) hz, View.readAt_eq_ld,
    harg3.read_unread, harg4.read_unread, harg5.read_unread, harg6.read_unread, harg7.read_unread, harg8.read_unread, harg9.read_unread, harg10.read_unread, harg11.read_unread, harg12.read_unread,
    View.ld_unit_zero (S := S512x1024) hz, View.ld_unit_zero (S := S1x1024) hz, View.ld_unit_zero (S := S512x256) hz, View.ld_unit_zero (S := S1024x1024) hz, View.ld_unit_zero (S := S256x1024) hz,
    View.ld_unit_zero (S := S1x1024x2816) hz3, View.ld_unit_zero (S := S1x2816x1024) hz3]
  refine congrArg (fun z => k0_pay1 z x6 x7 x5 x8) ?_
  refine (View.readCov_full (Val := Elt F) (s := S512x1024) ..).trans ?_
  rw [View.readCov_unit_zero (S := S512x1024) _ hz, View.readCov_unit_zero (S := S512x1024) _ hz]

end Body

variable (m : (ℓ : Loc nD τ sig) → Buf (Elt Ideal) ℓ) (hO : Ok m) (c : Dev nD)

/-- What the host hands the region: the arguments, flattened to rows or given a leading axis, at the ideal values. -/
theorem V_x : (V m c main_v0 : S32768x1024.Idx → EReal) = Cert.Reference2Ideal.Read.val_main_v0 (F := Ideal) (m ((c : Thread nD τ).loc main_arg0)) := by
  dsimp only [V, hostOps0]
  after_results
  rfl
theorem V_p : (V m c main_v1 : S32768x256.Idx → EReal) = Cert.Reference2Ideal.Read.val_main_v1 (F := Ideal) (m ((c : Thread nD τ).loc main_arg5)) := by
  dsimp only [V, hostOps0]
  after_results
  rfl
theorem V_wg (a : Fin 1024) (b : Fin 2816) : (V m c main_v3 : S1x1024x2816.Idx → EReal) (ix3 0 a b) = (m ((c : Thread nD τ).loc main_arg2) : S1024x2816.Idx → EReal) (ix2 a b) := by
  dsimp only [V, hostOps0]
  after_results
  pointwise []
theorem V_wu (a : Fin 1024) (b : Fin 2816) : (V m c main_v5 : S1x1024x2816.Idx → EReal) (ix3 0 a b) = (m ((c : Thread nD τ).loc main_arg3) : S1024x2816.Idx → EReal) (ix2 a b) := by
  dsimp only [V, hostOps0]
  after_results
  pointwise []
theorem V_wd (a : Fin 2816) (b : Fin 1024) : (V m c main_v7 : S1x2816x1024.Idx → EReal) (ix3 0 a b) = (m ((c : Thread nD τ).loc main_arg4) : S2816x1024.Idx → EReal) (ix2 a b) := by
  dsimp only [V, hostOps0]
  after_results
  pointwise []
theorem V_g (k : Fin 1024) : (V m c main_v15 : S1x1024.Idx → EReal) (ix2 0 k) = (m ((c : Thread nD τ).loc main_arg1) : S1024.Idx → EReal) (ix1 k) := by
  dsimp only [V, hostOps0]
  after_results
  pointwise []
theorem V_pg (k : Fin 1024) : (V m c main_v11 : S1x1024.Idx → EReal) (ix2 0 k) = (m ((c : Thread nD τ).loc main_arg6) : S1024.Idx → EReal) (ix1 k) := by
  dsimp only [V, hostOps0]
  after_results
  pointwise []
theorem V_pw : (V m c main_v12 : S1024x1024.Idx → EReal) = m ((c : Thread nD τ).loc main_arg7) := by
  dsimp only [V, hostOps0]
  after_results
  rfl
theorem V_pp : (V m c main_v13 : S256x1024.Idx → EReal) = m ((c : Thread nD τ).loc main_arg8) := by
  dsimp only [V, hostOps0]
  after_results
  rfl

/-- Row `r` of tile `t`, as a row of the whole array. -/
def row (t : Fin (cfgM m hO).N) (r : Fin 512) : Fin 32768 := ⟨t.val * 512 + r.val, by have h : t.val < 64 := t.isLt; omega⟩

theorem index_row : ∀ (t : Fin grid0.N) (a : Fin 2), cc0_transform_0 (grid0.coords t) a = (![t.val, 0] : Fin 2 → Nat) a
    ∧ cc0_transform_5 (grid0.coords t) a = (![t.val, 0] : Fin 2 → Nat) a ∧ cc0_transform_10 (grid0.coords t) a = (![t.val, 0] : Fin 2 → Nat) a := by
  decide +kernel

theorem blk_x (t : Fin (cfgM m hO).N) (r : Fin 512) (k : Fin 1024) :
    (iblk m hO c 0 t : S512x1024.Idx → EReal) (ix2 r k) = (V m c main_v0 : S32768x1024.Idx → EReal) (ix2 (row m hO t r) k) := by
  show (V m c main_v0 : S32768x1024.Idx → EReal) ((((cfgM m hO).win 0).blk t).view.emb (ix2 r k)) = _
  congr 1
  funext a; apply Fin.ext
  match a with
  | ⟨0, _⟩ =>
    show cc0_transform_0 (grid0.coords t) 0 * 512 + 1 * r.val = t.val * 512 + r.val
    rw [(index_row t 0).1]; show t.val * 512 + _ = _; omega
  | ⟨1, _⟩ =>
    show cc0_transform_0 (grid0.coords t) 1 * 1024 + 1 * k.val = k.val
    rw [(index_row t 1).1]; show 0 * 1024 + _ = _; omega
theorem blk_p (t : Fin (cfgM m hO).N) (r : Fin 512) (k : Fin 256) :
    (iblk m hO c 5 t : S512x256.Idx → EReal) (ix2 r k) = (V m c main_v1 : S32768x256.Idx → EReal) (ix2 (row m hO t r) k) := by
  show (V m c main_v1 : S32768x256.Idx → EReal) ((((cfgM m hO).win 5).blk t).view.emb (ix2 r k)) = _
  congr 1
  funext a; apply Fin.ext
  match a with
  | ⟨0, _⟩ =>
    show cc0_transform_5 (grid0.coords t) 0 * 512 + 1 * r.val = t.val * 512 + r.val
    rw [(index_row t 0).2.1]; show t.val * 512 + _ = _; omega
  | ⟨1, _⟩ =>
    show cc0_transform_5 (grid0.coords t) 1 * 256 + 1 * k.val = k.val
    rw [(index_row t 1).2.1]; show 0 * 256 + _ = _; omega

/-- The reference's result on the kernel's arguments. -/
def result : S32768x1024.Idx → EReal :=
  Cert.Reference2Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- A window whose block index is zero holds its whole array. -/
theorem blk_whole (t : Fin (cfgM m hO).N) :
    iblk m hO c 1 t = V m c main_v15 ∧ iblk m hO c 2 t = V m c main_v3 ∧ iblk m hO c 3 t = V m c main_v5 ∧ iblk m hO c 4 t = V m c main_v7
      ∧ iblk m hO c 6 t = V m c main_v11 ∧ iblk m hO c 7 t = V m c main_v12 ∧ iblk m hO c 8 t = V m c main_v13 := by
  refine ⟨?_, ?_, ?_, ?_, ?_, ?_, ?_⟩
  · exact Memref.read_access_unit_zero (Elt Ideal) main_v15 (funext fun a => by fin_cases a <;> rfl) _ _
  · exact Memref.read_access_unit_zero (Elt Ideal) main_v3 (funext fun a => by
      show cc0_transform_2 k0_off1_inb numel1_S1 inb_S65_S1_64 (tbl m) (grid0.coords t) a * _ = 0
      rw [transform2_zero]; exact Nat.zero_mul _) _ _
  · exact Memref.read_access_unit_zero (Elt Ideal) main_v5 (funext fun a => by
      show cc0_transform_3 k0_off1_inb numel1_S1 inb_S65_S1_64 (tbl m) (grid0.coords t) a * _ = 0
      rw [transform3_zero]; exact Nat.zero_mul _) _ _
  · exact Memref.read_access_unit_zero (Elt Ideal) main_v7 (funext fun a => by
      show cc0_transform_4 k0_off1_inb numel1_S1 inb_S65_S1_64 (tbl m) (grid0.coords t) a * _ = 0
      rw [transform4_zero]; exact Nat.zero_mul _) _ _
  · exact Memref.read_access_unit_zero (Elt Ideal) main_v11 (funext fun a => by fin_cases a <;> rfl) _ _
  · exact Memref.read_access_unit_zero (Elt Ideal) main_v12 (funext fun a => by fin_cases a <;> rfl) _ _
  · exact Memref.read_access_unit_zero (Elt Ideal) main_v13 (funext fun a => by fin_cases a <;> rfl) _ _

/-- What point `t` writes back is the reference's result read through the point's block. -/
theorem flushed_eq (t : Fin (cfgM m hO).N) : (dats m hO 0 c).flushed 10 t
    = (((cfgM m hO).win 10).blk t).view.read (Elt Ideal) (result m c) := by
  show (((cfgM m hO).win 10).cut (grid0.coords t)) ((dats m hO 0 c).after 10 t) = _
  rw [after0_10]
  funext (j : S512x1024.Idx)
  show outsAt0 m hO c t j = result m c ((((cfgM m hO).win 10).blk t).view.emb j)
  unfold outsAt0
  refine (congrFun (out_A ..) j).trans ?_
  obtain ⟨h1, h2, h3, h4, h6, h7, h8⟩ := blk_whole m hO c t
  obtain ⟨r, k, rfl⟩ : ∃ (r : Fin 512) (k : Fin 1024), j = ix2 r k := ⟨j 0, j 1, (ix2_eta j).symm⟩
  refine (Cert.Proof.Dense.tile_rows (row m hO t) _ _ _ _ _ _ _ _ _ _ _ _ _ _ _ _ _ _ (fun r k => (blk_x m hO c t r k).trans (congrFun (V_x m c) _)) (fun k => (congrFun h1 (ix2 0 k : S1x1024.Idx)).trans (V_g m c k))
    (fun a b => (congrFun h2 (ix3 0 a b : S1x1024x2816.Idx)).trans (V_wg m c a b)) (fun a b => (congrFun h3 (ix3 0 a b : S1x1024x2816.Idx)).trans (V_wu m c a b))
    (fun a b => (congrFun h4 (ix3 0 a b : S1x2816x1024.Idx)).trans (V_wd m c a b)) (fun r k => (blk_p m hO c t r k).trans (congrFun (V_p m c) _)) (fun k => (congrFun h6 (ix2 0 k : S1x1024.Idx)).trans (V_pg m c k))
    (fun a b => (congrFun h7 (ix2 a b : S1024x1024.Idx)).trans (congrFun (V_pw m c) _)) (fun a b => (congrFun h8 (ix2 a b : S256x1024.Idx)).trans (congrFun (V_pp m c) _)) r k).trans ?_
  · unfold result
    congr 1
    funext a; apply Fin.ext
    match a with
    | ⟨0, _⟩ =>
      show t.val * 512 + r.val = cc0_transform_10 (grid0.coords t) 0 * 512 + 1 * r.val
      rw [(index_row t 0).2.2]; show _ = t.val * 512 + _; omega
    | ⟨1, _⟩ =>
      show k.val = cc0_transform_10 (grid0.coords t) 1 * 1024 + 1 * k.val
      rw [(index_row t 1).2.2]; show _ = 0 * 1024 + _; omega

/-- The tiles cover the array. -/
theorem cover (i : S32768x1024.Idx) : ∃ t, ((cfgM m hO).win 10).flush t = true ∧ i ∈ (((cfgM m hO).win 10).blk t).view.set := by
  have hi : (i 0).val < 32768 := (i 0).isLt
  have hi1 : (i 1).val < 1024 := (i 1).isLt
  refine ⟨(⟨(i 0).val / 512, by show _ < 64; omega⟩ : Fin grid0.N), flush0_10 _ _, ?_⟩
  generalize ht : (⟨(i 0).val / 512, _⟩ : Fin grid0.N) = t
  have htv : t.val = (i 0).val / 512 := by rw [← ht]
  refine Eq.mpr (congrArg (fun s : Finset S32768x1024.Idx => i ∈ s) (View.set_slice_whole main_v16 (((cfgM m hO).win 10).rect t))) ?_
  refine (Rect.mem_set_unit ..).mpr fun a => ?_
  match a with
  | ⟨0, _⟩ =>
    show cc0_transform_10 (grid0.coords t) 0 * 512 ≤ (i 0).val ∧ (i 0).val < cc0_transform_10 (grid0.coords t) 0 * 512 + 512
    rw [(index_row t 0).2.2]; show t.val * 512 ≤ _ ∧ _ < t.val * 512 + 512; omega
  | ⟨1, _⟩ =>
    show cc0_transform_10 (grid0.coords t) 1 * 1024 ≤ (i 1).val ∧ (i 1).val < cc0_transform_10 (grid0.coords t) 1 * 1024 + 1024
    rw [(index_row t 1).2.2]; show 0 * 1024 ≤ _ ∧ _ < 0 * 1024 + 1024; omega

/-- So after the run it is the reference's result. -/
theorem final : (dats m hO 0 c).arrAt 10 (cfgM m hO).N = result m c :=
  (dats m hO 0 c).arrAt_eq_of_cover 10 (result m c) (fun t _ => flushed_eq m hO c t) (cover m hO)

/-- The kernel's run at the ideal values: its result is the reference's, its arguments end as they were. -/
theorem run (ρ : Dev nD → PrngReg) : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_main m ρ (ok m))
  have kept (b : Ref sig .tc) (hb : b ∈ Pipeline.restRefs sig spec0) (hV : V m c b = m ((c : Thread nD τ).loc b)) := ((h c).2 b hb).trans hV
  exact ⟨((h c).1 10).trans (final m (ok m) c), kept main_arg0 (by decide) (V_main_arg0 m c), kept main_arg1 (by decide) (V_main_arg1 m c),
    kept main_arg2 (by decide) (V_main_arg2 m c), kept main_arg3 (by decide) (V_main_arg3 m c), kept main_arg4 (by decide) (V_main_arg4 m c),
    kept main_arg5 (by decide) (V_main_arg5 m c), kept main_arg6 (by decide) (V_main_arg6 m c), kept main_arg7 (by decide) (V_main_arg7 m c),
    kept main_arg8 (by decide) (V_main_arg8 m c), kept main_arg9 (by decide) (V_main_arg9 m c)⟩

end Cert.Kernel2Ideal.Dense

end
-- ==== Proof.DenseFfn.lean ====
/- The claims about the dense block: its frames, its reference's, and that the two compute one function. -/
module

public import proofs.«01_k».proof.Defs
public import proofs.«01_k».proof.Proof.DenseFfnValue
public import proofs.«01_k».proof.Proof.Gen.Reference2Ideal.Run
public import proofs.«01_k».proof.Proof.Gen.Reference2Ideal.Read

@[expose] public section

noncomputable section

namespace Cert.Proof.Dense

open Idealize.ShloMosaic Idealize.SL.Sem

/-- The kernel terminates, leaves its arguments and every counter at zero. -/
theorem frame : Cert.quiescent_Kernel2 (hKernel2 := Cert.Kernel2.Gen.facts) :=
  fun m g _ => Cert.Kernel2.Gen.frame m g (Cert.Kernel2.Dense.ok m)

/-- So does its ideal program. -/
theorem frameIdeal : Cert.quiescent_Kernel2Ideal (hKernel2Ideal := Cert.Kernel2Ideal.Gen.facts) :=
  fun m g _ => Cert.Kernel2Ideal.Gen.frame m g (Cert.Kernel2Ideal.Dense.ok m)

/-- So does its reference. -/
theorem frameReference : Cert.quiescent_Reference2Ideal (hReference2Ideal := Cert.Reference2Ideal.Gen.facts) :=
  fun m g _ => (θ_run (Cert.Reference2Ideal.defs (F := Ideal)) _ _).mono
    (fun r h => ⟨fun c => (h c).2, Idealize.ShloMosaic.sem_eq_zero_of_no_sems (by decide) r.2⟩) (Cert.Reference2Ideal.Value.run m g)

/-- Kernel and reference compute the same function over the extended reals. -/
theorem algebraic : Cert.algebraic_Kernel2Ideal_Reference2Ideal (hKernel2Ideal := Cert.Kernel2Ideal.Gen.facts) (hReference2Ideal := Cert.Reference2Ideal.Gen.facts) := by
  intro m g m' g' _ heq
  refine ⟨Cert.Kernel2Ideal.Dense.result m, Cert.Kernel2Ideal.Dense.run m g, ?_⟩
  refine (θ_run (Cert.Reference2Ideal.defs (F := Ideal)) _ _).mono (fun r h c => ⟨(h c).1.trans ?_, (h c).2⟩) (Cert.Reference2Ideal.Value.run m' g')
  refine (Cert.Reference2Ideal.Read.val_main_v43_eq m' c).trans ?_
  obtain ⟨e0, e1, e2, e3, e4, e5, e6, e7, e8, -⟩ := heq c
  rw [e0, e1, e2, e3, e4, e5, e6, e7, e8]
  rfl

end Cert.Proof.Dense

end
-- ==== Proof.ExpertTable.lean ====
/- The table the experts' weight windows read: each block's expert, and last the number of blocks in use. Where every
   expert is one of the eight, every weight window lies inside its array. -/
module

public import proofs.«01_k».proof.Proof.Gen.Kernel3.Frame
public import proofs.«01_k».proof.Proof.Gen.Kernel3Ideal.Frame
public import Idealize.ShloMosaic.Lib.Pointwise

@[expose] public section

set_option maxRecDepth 16384

noncomputable section

namespace Cert.Kernel3Ideal.Expert

open Idealize.ShloMosaic Idealize.ShloMosaic.TcCoe
open Cert.Kernel3Ideal Cert.Kernel3Ideal.Gen

/-- A half of an expert's gate or up matrix lies inside the eight experts' array and moves whole words. -/
theorem half_in : ∀ (e : Fin 8) (f : Fin 2), ∃ h : (∀ a, ((![e.val, 0, f.val] : Fin 3 → Nat) a + 1) * S1x1024x1792.size a ≤ S8x1024x3584.size a),
    (Rect.block (s := S8x1024x3584) S1x1024x1792.size (![e.val, 0, f.val] : Fin 3 → Nat) h).WholeWords (EltTy.packing .bf16) := by
  decide +kernel

/-- So does a half of an expert's down matrix. -/
theorem half_down_in : ∀ (e : Fin 8) (f : Fin 2), ∃ h : (∀ a, ((![e.val, f.val, 0] : Fin 3 → Nat) a + 1) * S1x1792x1024.size a ≤ S8x3584x1024.size a),
    (Rect.block (s := S8x3584x1024) S1x1792x1024.size (![e.val, f.val, 0] : Fin 3 → Nat) h).WholeWords (EltTy.packing .bf16) := by
  decide +kernel

variable {F : FTy → Type} [FloatOps F]
variable (m : (ℓ : Loc nD τ sig) → Buf (Elt F) ℓ)

/-- Block `i`'s expert, and the number of blocks in use, as the arguments give them. -/
def expert (i : Fin 136) : BitVec 32 := (m (((0 : Dev nD) : Thread nD τ).loc main_arg1) : S136.Idx → BitVec 32) (ix1 i)
def inUse : BitVec 32 := (m (((0 : Dev nD) : Thread nD τ).loc main_arg2) : S1.Idx → BitVec 32) (ix1 0)

/-- The table the region finds: the blocks' experts and then the number of blocks in use. -/
theorem table_eq : (tbl m 0 : S137.Idx → BitVec 32)
    = concatenate S137 0 [⟨S136, m (((0 : Dev nD) : Thread nD τ).loc main_arg1)⟩, ⟨S1, m (((0 : Dev nD) : Thread nD τ).loc main_arg2)⟩] concatenates_S136_S1_S137_d0 := by
  show V m 0 main_v0 = _
  dsimp only [V, hostOps0]
  after_results
  all_goals rfl

/-- Each of the first 136 words is a block's expert. -/
theorem word_expert (y : S137.Idx) (hy : (y 0).val < 136) : (tbl m 0 : S137.Idx → BitVec 32) y = expert m ⟨(y 0).val, hy⟩ := by
  rw [table_eq m]
  exact concatenate_pair_apply_left _ _ _ concatenates_S136_S1_S137_d0 y rfl (ix1 ⟨(y 0).val, hy⟩) fun b => by
    obtain rfl : b = 0 := Subsingleton.elim _ _; rfl

/-- The last word is the number of blocks in use. -/
theorem word_inUse (y : S137.Idx) (hy : (y 0).val = 136) : (tbl m 0 : S137.Idx → BitVec 32) y = inUse m := by
  rw [table_eq m]
  exact concatenate_pair_apply_right _ _ _ concatenates_S136_S1_S137_d0 y rfl rfl (ix1 0)
    (fun b hb => absurd (Subsingleton.elim _ _) hb) (by show 0 + 136 = (y 0).val; omega)

/-- A block that is not in use selects the second half of the weights, one that is the grid point's own. -/
def half (i : grid0.Coords) : BitVec 32 :=
  Scalar.select (Scalar.cmpi .slt (BitVec.ofNat 32 (i 0).val) (inUse m)) (BitVec.ofNat 32 (i 1).val) 1#32

theorem half_lt (i : grid0.Coords) : (half m i).toNat < 2 := by
  have h1 : (i 1).val < 2 := (i 1).isLt
  unfold half Scalar.select
  split
  · rw [BitVec.toNat_ofNat]; omega
  · decide

theorem entry_expert (i : grid0.Coords) (h : ∀ a, (![(Scalar.indexCast (BitVec.ofNat 32 (i 0).val) : Index).toNat] : Fin 1 → Nat) a + S1.size a ≤ S137.size a) (h1 : S1.numel = 1) :
    (tbl m).at 0 (Rect.unit (s := S137) ![(Scalar.indexCast (BitVec.ofNat 32 (i 0).val) : Index).toNat] S1.size h) h1 = expert m (i 0) := by
  have h0 : (i 0).val < 136 := (i 0).isLt
  have e : (BitVec.ofNat 32 (i 0).val).toNat + 1 * 0 = (i 0).val := by rw [BitVec.toNat_ofNat]; omega
  refine (word_expert m _ (show (BitVec.ofNat 32 (i 0).val).toNat + 1 * 0 < 136 by omega)).trans ?_
  exact congrArg (expert m) (Fin.ext e)

theorem entry_inUse (h : ∀ a, (![136] : Fin 1 → Nat) a + S1.size a ≤ S137.size a) (h1 : S1.numel = 1) :
    (tbl m).at 0 (Rect.unit (s := S137) ![136] S1.size h) h1 = inUse m :=
  word_inUse m _ rfl

theorem half_eq (i : grid0.Coords) :
    Scalar.select (Scalar.cmpi .slt (BitVec.ofNat 32 (i 0).val) ((tbl m).at 0 (Rect.unit (s := S137) ![136] S1.size inb_S137_S1_136) numel1_S1))
      (BitVec.ofNat 32 (i 1).val) 1#32 = half m i :=
  congrArg (fun v => Scalar.select (Scalar.cmpi .slt (BitVec.ofNat 32 (i 0).val) v) (BitVec.ofNat 32 (i 1).val) 1#32) (entry_inUse m _ _)

/-- A weight window's block at a grid point: the block's expert, and the half of it. -/
theorem transform2_eq (i : grid0.Coords) :
    cc0_transform_2 k0_off1_inb numel1_S1 inb_S137_S1_136 (tbl m) i = ![(expert m (i 0)).toNat, 0, (half m i).toNat] :=
  congrArg₂ (fun x y : BitVec 32 => (![x.toNat, 0, y.toNat] : Fin 3 → Nat)) (entry_expert m i (k0_off1_inb i) numel1_S1) (half_eq m i)

theorem transform3_eq (i : grid0.Coords) :
    cc0_transform_3 k0_off1_inb numel1_S1 inb_S137_S1_136 (tbl m) i = ![(expert m (i 0)).toNat, 0, (half m i).toNat] := transform2_eq m i

theorem transform4_eq (i : grid0.Coords) :
    cc0_transform_4 k0_off1_inb numel1_S1 inb_S137_S1_136 (tbl m) i = ![(expert m (i 0)).toNat, (half m i).toNat, 0] :=
  congrArg₂ (fun x y : BitVec 32 => (![x.toNat, y.toNat, 0] : Fin 3 → Nat)) (entry_expert m i (k0_off1_inb i) numel1_S1) (half_eq m i)

/-- The table's side condition of the pipeline, where every block's expert is one of the eight. -/
theorem ok (h : ∀ i, (expert m i).toNat < 8) : Ok m := by
  have hin : ∀ (ix : Fin 3 → Nat) (e : Fin 8) (f : Fin 2), ix = ![e.val, 0, f.val] →
      ∃ h : (∀ a, (ix a + 1) * S1x1024x1792.size a ≤ S8x1024x3584.size a), EltTy.bits .bf16 = 32 ∨ (Rect.block (s := S8x1024x3584) S1x1024x1792.size ix h).WholeWords (EltTy.packing .bf16) := by
    rintro ix e f rfl; exact (half_in e f).imp fun _ h => .inr h
  have hdn : ∀ (ix : Fin 3 → Nat) (e : Fin 8) (f : Fin 2), ix = ![e.val, f.val, 0] →
      ∃ h : (∀ a, (ix a + 1) * S1x1792x1024.size a ≤ S8x3584x1024.size a), EltTy.bits .bf16 = 32 ∨ (Rect.block (s := S8x3584x1024) S1x1792x1024.size ix h).WholeWords (EltTy.packing .bf16) := by
    rintro ix e f rfl; exact (half_down_in e f).imp fun _ h => .inr h
  exact ⟨fun i => hin _ ⟨_, h (i 0)⟩ ⟨_, half_lt m i⟩ (transform2_eq m i), fun i => hin _ ⟨_, h (i 0)⟩ ⟨_, half_lt m i⟩ (transform3_eq m i),
    fun i => hdn _ ⟨_, h (i 0)⟩ ⟨_, half_lt m i⟩ (transform4_eq m i)⟩

end Cert.Kernel3Ideal.Expert

namespace Cert.Kernel3.Expert

open Idealize.ShloMosaic Idealize.ShloMosaic.TcCoe
open Cert.Kernel3 Cert.Kernel3.Gen

/-- The program as written has the same index arithmetic, so its windows also stay inside. -/
theorem ok {F : FTy → Type} [FloatOps F] (m : (ℓ : Loc nD τ sig) → Buf (Elt F) ℓ) (h : ∀ i, (Cert.Kernel3Ideal.Expert.expert (F := F) m i).toNat < 8) : Ok m :=
  Cert.Kernel3Ideal.Expert.ok (F := F) m h

end Cert.Kernel3.Expert

end
-- ==== Proof.ExpertGather.lean ====
/- Taking one of eight matrices per block: a block's entry of the gathered array is the entry of the matrix its index names. -/
module

public import Idealize.ShloMosaic.Lib.Pointwise
public import Idealize.ShloMosaic.Lib.StableHlo.Predicate

@[expose] public section

namespace Cert.Proof.Expert

open Idealize.ShloMosaic

/-- `x[idx]` over the leading axis of eight matrices: where `idx` holds `b < 8` for block `c`, entry `(c, k, n)` is `x`'s entry `(b, k, n)`. -/
theorem gather_matrix {α : Type} {K N : Nat} (d : GatherDims ⟨3, ![8, K, N]⟩ ⟨2, ![136, 1]⟩ ⟨3, ![136, K, N]⟩) (hoff : d.offsetDims = [1, 2])
    (hcoll : d.collapsedSliceDims = [0]) (hob : d.operandBatchingDims = []) (hsim : d.startIndexMap = [0]) (hivd : d.indexVectorDim = 1)
    (x : (⟨3, ![8, K, N]⟩ : Shape).Idx → α) (idx : IVec ⟨2, ![136, 1]⟩ 32) (c : Fin 136) (k : Fin K) (n : Fin N) (b : Fin 8)
    (hb : idx (ix2 c (0 : Fin 1)) = BitVec.ofNat 32 b.val) :
    Host.gather d x idx (ix3 c k n) = x (ix3 b k n) := by
  have hs := d.slice_collapsed
  obtain ⟨off, coll, ob, sb, sim, ivd, ss, wf⟩ := d
  dsimp only at hoff hcoll hob hsim hivd hs
  subst hoff hcoll hob hsim hivd
  have hs0 : ss 0 = 1 := hs 0 (List.mem_singleton.2 rfl)
  unfold Host.gather
  refine congrArg x (funext fun a => Fin.ext ?_)
  match a with
  | ⟨0, _⟩ =>
    show GatherDims.start _ (ix3 c k n) idx 0 + 0 + 0 = b.val
    unfold GatherDims.start
    rw [dif_pos (List.mem_singleton.2 rfl)]
    have hi : ∀ q h, GatherDims.siIdx (⟨[1, 2], [0], [], sb, [0], 1, ss, wf⟩ : GatherDims ⟨3, ![8, K, N]⟩ ⟨2, ![136, 1]⟩ ⟨3, ![136, K, N]⟩) (ix3 c k n) ⟨q, h⟩ = ix2 c (0 : Fin 1) := by
      intro q h
      funext b'; apply Fin.ext
      match b' with
      | ⟨0, _⟩ => rfl
      | ⟨1, _⟩ => show q = 0; exact Nat.lt_one_iff.1 h
    have hbl := b.isLt
    rw [hi, hb, StableHlo.Predicate.toInt_ofNat_small _ (by omega)]
    show min ((b.val : Int)).toNat (8 - ss 0) + 0 + 0 = b.val
    rw [hs0]; omega
  | ⟨1, _⟩ => show 0 + 0 + k.val = k.val; omega
  | ⟨2, _⟩ => show 0 + 0 + n.val = n.val; omega

end Cert.Proof.Expert
-- ==== Proof.ExpertRows.lean ====
/- The expert block's payloads, row by row: a tile of 512 rows of the kernel's arithmetic, over the two halves of an
   expert's hidden width, is the reference's arithmetic at the block the tile holds. Stated at `Ideal`. -/
module

public import proofs.«01_k».proof.Proof.Gen.Kernel3Ideal.Skeleton
public import proofs.«01_k».proof.Proof.Gen.Reference3Ideal.Run
public import proofs.«01_k».proof.Proof.Gen.Reference3Ideal.Read
public import proofs.«01_k».proof.Proof.ExpertGather

@[expose] public section

set_option maxRecDepth 16384

noncomputable section

namespace Cert.Proof.Expert

open Idealize.ShloMosaic
open Cert.Kernel3Ideal.Gen (k0_pay1 k0_pay2 k0_pay3 k0_pay4)
open Cert.Reference3Ideal.Read

/-- Zero minus a number is its negation. -/
theorem zero_sub_eq (a : EReal) : (0 : EReal) - a = -a := by rw [sub_eq_add_neg, zero_add]

/-- One hidden unit of an expert: the gate's product through `silu`, times the up product. -/
def unit (h g u : Fin 1024 → EReal) : EReal :=
  (∑ c, h c * g c) * Ideal.div 1 (1 + Ideal.exp (-∑ c, h c * g c)) * ∑ c, h c * u c

/-- One grid point adds its half of the hidden units to what is accumulated. -/
theorem half_apply (hn : Vec Ideal Cert.Kernel3Ideal.S512x1024 .bf16) (wg wu : Vec Ideal Cert.Kernel3Ideal.S1x1024x1792 .bf16)
    (acc : Vec Ideal Cert.Kernel3Ideal.S512x1024 .f32) (wd : Vec Ideal Cert.Kernel3Ideal.S1x1792x1024 .bf16) (r : Fin 512) (k : Fin 1024) :
    k0_pay3 (F := Ideal) hn wg wu acc wd (ix2 r k)
      = acc (ix2 r k) + ∑ n : Fin 1792, unit (fun c => hn (ix2 r c)) (fun c => wg (ix3 0 c n)) (fun c => wu (ix3 0 c n)) * wd (ix3 0 n k) := by
  pointwise [k0_pay3, unit]
  simp only [zero_sub_eq]

theorem start_apply (x : Vec Ideal Cert.Kernel3Ideal.S512x1024 .bf16) (r : Fin 512) (k : Fin 1024) : k0_pay1 (F := Ideal) x (ix2 r k) = x (ix2 r k) := by
  pointwise [k0_pay1]
theorem zero_apply (r : Fin 512) (k : Fin 1024) : k0_pay2 (F := Ideal) (ix2 r k) = 0 := by
  pointwise [k0_pay2]
theorem out_apply (x : Vec Ideal Cert.Kernel3Ideal.S512x1024 .f32) (r : Fin 512) (k : Fin 1024) : k0_pay4 (F := Ideal) x (ix2 r k) = x (ix2 r k) := by
  pointwise [k0_pay4]

variable (x0 : (⟨Cert.Reference3Ideal.S69632x1024, .bf16⟩ : BufTy).Contents (Elt Ideal)) (x1 : (⟨Cert.Reference3Ideal.S136, .i32⟩ : BufTy).Contents (Elt Ideal))
  (x2 : (⟨Cert.Reference3Ideal.S1, .i32⟩ : BufTy).Contents (Elt Ideal))
  (x4 x5 : (⟨Cert.Reference3Ideal.S8x1024x3584, .f32⟩ : BufTy).Contents (Elt Ideal)) (x6 : (⟨Cert.Reference3Ideal.S8x3584x1024, .f32⟩ : BufTy).Contents (Elt Ideal))

/-- Row `r` of block `i`, as a row of the whole array. -/
def row (i : Fin 136) (r : Fin 512) : Fin 69632 := ⟨i.val * 512 + r.val, by omega⟩

theorem rows_apply (i : Fin 136) (r : Fin 512) (c : Fin 1024) : val_main_v1 (F := Ideal) x0 (ix3 i r c) = x0 (ix2 (row i r) c) := by
  pointwise [val_main_v1, val_main_v0, row]

variable (i : Fin 136) (e : Fin 8) (he : x1 (ix1 i) = BitVec.ofNat 32 e.val)
include he

/-- The number the gather reads for a block is the block's expert. -/
theorem chosen : val_main_v7 (F := Ideal) x1 (ix2 i 0) = BitVec.ofNat 32 e.val
    ∧ val_main_v14 (F := Ideal) x1 (ix2 i 0) = BitVec.ofNat 32 e.val ∧ val_main_v21 (F := Ideal) x1 (ix2 i 0) = BitVec.ofNat 32 e.val := by
  refine ⟨?_, ?_, ?_⟩
  · pointwise [val_main_v7, val_main_v6, val_main_v5, val_main_v4, val_main_v3, val_main_v2, val_main_c, val_main_c_0]
    rw [he]; clear he; revert e; decide
  · pointwise [val_main_v14, val_main_v13, val_main_v12, val_main_v11, val_main_v10, val_main_v9, val_main_c_1, val_main_c_2]
    rw [he]; clear he; revert e; decide
  · pointwise [val_main_v21, val_main_v20, val_main_v19, val_main_v18, val_main_v17, val_main_v16, val_main_c_3, val_main_c_4]
    rw [he]; clear he; revert e; decide

theorem gate_apply (a : Fin 1024) (b : Fin 3584) : val_main_v8 (F := Ideal) x1 x4 (ix3 i a b) = x4 (ix3 e a b) :=
  gather_matrix _ rfl rfl rfl rfl rfl x4 _ i a b e (chosen x1 i e he).1
theorem up_apply (a : Fin 1024) (b : Fin 3584) : val_main_v15 (F := Ideal) x1 x5 (ix3 i a b) = x5 (ix3 e a b) :=
  gather_matrix _ rfl rfl rfl rfl rfl x5 _ i a b e (chosen x1 i e he).2.1
theorem down_apply (a : Fin 3584) (b : Fin 1024) : val_main_v22 (F := Ideal) x1 x6 (ix3 i a b) = x6 (ix3 e a b) :=
  gather_matrix _ rfl rfl rfl rfl rfl x6 _ i a b e (chosen x1 i e he).2.2

/-- A hidden unit of the reference at a row of block `i`. -/
theorem unit_apply (r : Fin 512) (n : Fin 3584) : val_main_v26 (F := Ideal) x0 x1 x4 x5 (ix3 i r n)
    = unit (fun c => x0 (ix2 (row i r) c)) (fun c => x4 (ix3 e c n)) (fun c => x5 (ix3 e c n)) := by
  pointwise [val_main_v26, val_main_v25, val_main_v24, val_main_v23, val_main_call0_v0, val_main_call0_v1, val_main_call0_v2, val_main_call0_v3, val_main_call0_v4, val_main_call0_v5, val_main_call0_cst, val_main_call0_cst_0, unit]
  simp only [rows_apply, gate_apply x1 x4 i e he, up_apply x1 x5 i e he]

/-- The reference's result at a row of block `i`: the expert's sum where the block is in use, else zero. -/
theorem result_apply (r : Fin 512) (k : Fin 1024) : val_main_v34 (F := Ideal) x0 x1 x2 x4 x5 x6 (ix2 (row i r) k)
    = Scalar.select (IntOp.cmpi .slt (BitVec.ofNat 32 i.val) (x2 (ix1 0)))
        (∑ n : Fin 3584, unit (fun c => x0 (ix2 (row i r) c)) (fun c => x4 (ix3 e c n)) (fun c => x5 (ix3 e c n)) * x6 (ix3 e n k)) 0 := by
  have hs : val_main_v34 (F := Ideal) x0 x1 x2 x4 x5 x6 (ix2 (row i r) k) = val_main_v32 (F := Ideal) x0 x1 x2 x4 x5 x6 (ix3 i r k) := by
    pointwise [val_main_v34, val_main_v33, row]
  rw [hs]
  pointwise [val_main_v32, val_main_v27, val_main_v28, val_main_v29, val_main_v30, val_main_v31, val_main_cst, val_main_call1_v0, id, val_main_call1_v1, val_main_call1_v2]
  simp only [unit_apply x0 x1 x4 x5 i e he, down_apply x1 x6 i e he]

omit he

/-- A hidden unit of the first, or of the second, half of the width. -/
def low (n : Fin 1792) : Fin 3584 := ⟨n.val, by omega⟩
def high (n : Fin 1792) : Fin 3584 := ⟨1792 + n.val, by omega⟩

/-- A sum over the hidden width is the sums over its two halves. -/
theorem sum_halves (f : Fin 3584 → EReal) : ∑ n, f n = ∑ n, f (low n) + ∑ n, f (high n) :=
  Fin.sum_univ_add (a := 1792) (b := 1792) f

/-- A block's two grid points: what they leave is the expert's sum at the block's rows. -/
theorem tile_rows (h : Vec Ideal Cert.Kernel3Ideal.S512x1024 .bf16) (g0 u0 g1 u1 : Vec Ideal Cert.Kernel3Ideal.S1x1024x1792 .bf16)
    (d0 d1 : Vec Ideal Cert.Kernel3Ideal.S1x1792x1024 .bf16)
    (hh : ∀ r c, h (ix2 r c) = x0 (ix2 (row i r) c))
    (hg0 : ∀ c n, g0 (ix3 0 c n) = x4 (ix3 e c (low n))) (hg1 : ∀ c n, g1 (ix3 0 c n) = x4 (ix3 e c (high n)))
    (hu0 : ∀ c n, u0 (ix3 0 c n) = x5 (ix3 e c (low n))) (hu1 : ∀ c n, u1 (ix3 0 c n) = x5 (ix3 e c (high n)))
    (hd0 : ∀ n k, d0 (ix3 0 n k) = x6 (ix3 e (low n) k)) (hd1 : ∀ n k, d1 (ix3 0 n k) = x6 (ix3 e (high n) k)) (r : Fin 512) (k : Fin 1024) :
    k0_pay4 (F := Ideal) (k0_pay3 (k0_pay1 h) g1 u1 (k0_pay3 (k0_pay1 h) g0 u0 (k0_pay2 (F := Ideal)) d0) d1) (ix2 r k)
      = ∑ n : Fin 3584, unit (fun c => x0 (ix2 (row i r) c)) (fun c => x4 (ix3 e c n)) (fun c => x5 (ix3 e c n)) * x6 (ix3 e n k) := by
  rw [out_apply, half_apply, half_apply, zero_apply, zero_add, sum_halves]
  simp only [start_apply, hh, hg0, hg1, hu0, hu1, hd0, hd1]

end Cert.Proof.Expert

end
-- ==== Proof.ExpertBody.lean ====
/- What a grid point of the expert block's kernel leaves in its scratch and its output block, as terms of what it reads. -/
module

public import proofs.«01_k».proof.Proof.Gen.Kernel3Ideal.Frame
public import Idealize.ShloMosaic.Lib.Pipeline.Value
public import Idealize.ShloMosaic.Lib.VecWindow

@[expose] public section

set_option maxRecDepth 16384

noncomputable section

namespace Cert.Kernel3Ideal.Expert

open Idealize.ShloMosaic Idealize.ShloMosaic.TcCoe Idealize.ShloMosaic.Tactic Idealize.SL.Sem
open Cert.Kernel3Ideal Cert.Kernel3Ideal.Gen

theorem hz : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The kernel's test that its block is in use, over the table's contents. -/
abbrev Live (c : Dev nD) (i : grid0.Coords) (xt0 : TbBuf0 (F := F) c tbM0_0) : Prop :=
  cond0_1 i (tbM0_0.view.readAt (Elt F) (Rect.unit (s := S137) ![136] S1.size inb_S137_S1_136).toLoadRect xt0 (Shape.Idx.first (numel1_S1.symm ▸ Nat.one_pos)))

variable (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole)
  (x0 : Vec F S512x1024 .bf16) (x1 : Vec F S1x1024 .f32) (x2 : Vec F S1x1024x1792 .bf16) (x3 : Vec F S1x1024x1792 .bf16) (x4 : Vec F S1x1792x1024 .bf16) (xt0 : TbBuf0 (F := F) c tbM0_0) (xs0 : Vec F S512x1024 .bf16) (xs1 : Vec F S512x1024 .f32)

section First
variable (hc0 : cond0_0 i) (hc2 : ¬cond0_2 i)

/-- A block's first point keeps the block's rows, -/
theorem rows_A (hc1 : Live c i xt0) :
    sout0_A_0 c i arg3 harg3 arg4 harg4 arg5 harg5 arg6 harg6 arg7 harg7 arg8 harg8 arg9 harg9 arg10 harg10 hc0 hc2 x0 x1 x2 x3 x4 xt0 hc1 = k0_pay1 x0 := by
  unfold sout0_A_0
  rw [View.read_writes_eq_canon _ _ _ (scover0_A_0 c i arg3 harg3 arg4 harg4 arg5 harg5 arg6 harg6 arg7 harg7 arg8 harg8 arg9 harg9 arg10 harg10 hc0 hc2 x0 x1 x2 x3 x4 xt0 hc1)]
  unfold kernelRun0_A
  dsimp only
  sl_unfold_words
  simp only [View.canon_unit_zero (S := S512x1024) hz, View.readAt_eq_ld, harg3.read_unread, View.ld_unit_zero (S := S512x1024) hz]

/-- and, the block in use, the first half's sum over nothing. -/
theorem sum_A (hc1 : Live c i xt0) :
    sout0_A_1 c i arg3 harg3 arg4 harg4 arg5 harg5 arg6 harg6 arg7 harg7 arg8 harg8 arg9 harg9 arg10 harg10 hc0 hc2 x0 x1 x2 x3 x4 xt0 hc1 = k0_pay3 (k0_pay1 x0) x2 x3 (k0_pay2 (F := F)) x4 := by
  unfold sout0_A_1
  rw [View.read_writes_eq_canon _ _ _ (scover0_A_1 c i arg3 harg3 arg4 harg4 arg5 harg5 arg6 harg6 arg7 harg7 arg8 harg8 arg9 harg9 arg10 harg10 hc0 hc2 x0 x1 x2 x3 x4 xt0 hc1)]
  unfold kernelRun0_A
  dsimp only
  sl_unfold_words
  simp only [View.canon_cons_unit_zero (S := S512x1024) hz, View.canon_unit_zero (S := S512x1024) hz, View.readAt_eq_ld, harg3.read_unread, harg5.read_unread, harg6.read_unread, harg7.read_unread,
    View.ld_unit_zero (S := S512x1024) hz, View.ld_unit_zero (S := S1x1024x1792) hz3, View.ld_unit_zero (S := S1x1792x1024) hz3]
  rw [View.readCov_unit_zero (S := S512x1024) _ hz, View.readCov_unit_zero (S := S512x1024) _ hz]

/-- A block not in use has the zero sum. -/
theorem sum_B (hc1 : ¬Live c i xt0) :
    sout0_B_1 c i arg3 harg3 arg4 harg4 arg5 harg5 arg6 harg6 arg7 harg7 arg8 harg8 arg9 harg9 arg10 harg10 hc0 hc2 x0 x1 x2 x3 x4 xt0 hc1 = k0_pay2 (F := F) := by
  unfold sout0_B_1
  rw [View.read_writes_eq_canon _ _ _ (scover0_B_1 c i arg3 harg3 arg4 harg4 arg5 harg5 arg6 harg6 arg7 harg7 arg8 harg8 arg9 harg9 arg10 harg10 hc0 hc2 x0 x1 x2 x3 x4 xt0 hc1)]
  unfold kernelRun0_B
  dsimp only
  sl_unfold_words
  simp only [View.canon_unit_zero (S := S512x1024) hz]

end First

section Second
variable (hc0 : ¬cond0_0 i) (hc2 : cond0_2 i)

/-- A block's second point stores the sum it finds and the second half's, over the rows it finds, -/
theorem out_C (hc1 : Live c i xt0) :
    out0_C_5 c i arg3 harg3 arg4 harg4 arg5 harg5 arg6 harg6 arg7 harg7 arg8 harg8 arg9 harg9 arg10 harg10 hc0 hc2 x0 x1 x2 x3 x4 xt0 xs0 xs1 hc1 = k0_pay4 (k0_pay3 xs0 x2 x3 xs1 x4) := by
  unfold out0_C_5
  rw [View.read_writes_eq_canon _ _ _ (cover0_C_5 c i arg3 harg3 arg4 harg4 arg5 harg5 arg6 harg6 arg7 harg7 arg8 harg8 arg9 harg9 arg10 harg10 hc0 hc2 x0 x1 x2 x3 x4 xt0 xs0 xs1 hc1)]
  unfold kernelRun0_C
  dsimp only
  sl_unfold_words
  simp only [View.canon_unit_zero (S := S512x1024) hz, View.readAt_eq_ld, harg5.read_unread, harg6.read_unread, harg7.read_unread, harg9.read_unread, harg10.read_unread,
    View.ld_unit_zero (S := S512x1024) hz, View.ld_unit_zero (S := S1x1024x1792) hz3, View.ld_unit_zero (S := S1x1792x1024) hz3]
  rw [View.readCov_unit_zero (S := S512x1024) _ hz]

/-- or, the block not in use, the sum it finds. -/
theorem out_D (hc1 : ¬Live c i xt0) :
    out0_D_5 c i arg3 harg3 arg4 harg4 arg5 harg5 arg6 harg6 arg7 harg7 arg8 harg8 arg9 harg9 arg10 harg10 hc0 hc2 x0 x1 x2 x3 x4 xt0 xs0 xs1 hc1 = k0_pay4 xs1 := by
  unfold out0_D_5
  rw [View.read_writes_eq_canon _ _ _ (cover0_D_5 c i arg3 harg3 arg4 harg4 arg5 harg5 arg6 harg6 arg7 harg7 arg8 harg8 arg9 harg9 arg10 harg10 hc0 hc2 x0 x1 x2 x3 x4 xt0 xs0 xs1 hc1)]
  unfold kernelRun0_D
  dsimp only
  sl_unfold_words
  simp only [View.canon_unit_zero (S := S512x1024) hz, View.readAt_eq_ld, harg10.read_unread, View.ld_unit_zero (S := S512x1024) hz]

end Second

end Cert.Kernel3Ideal.Expert

end
-- ==== Proof.ExpertValue.lean ====
/- What the expert block's kernel computes: its array after the run, block by block, is the reference's result, where
   every block's expert is one of the eight. -/
module

public import proofs.«01_k».proof.Proof.ExpertTable
public import proofs.«01_k».proof.Proof.ExpertRows
public import proofs.«01_k».proof.Proof.ExpertBody

@[expose] public section

set_option maxRecDepth 16384

noncomputable section

namespace Cert.Kernel3Ideal.Expert

open Idealize.ShloMosaic Idealize.ShloMosaic.TcCoe Idealize.ShloMosaic.Tactic Idealize.SL.Sem
open Idealize.ShloMosaic.Pipeline (Dat Window)
open Cert.Kernel3Ideal Cert.Kernel3Ideal.Gen
open Cert.Proof.Expert (row low high)

/-- Point `t` is half `t % 2` of block `t / 2`. -/
theorem coords_eq : ∀ t : Fin grid0.N, (grid0.coords t 0).val = t.val / 2 ∧ (grid0.coords t 1).val = t.val % 2 := by
  decide +kernel

theorem index_row : ∀ (t : Fin grid0.N) (a : Fin 2), cc0_transform_0 (grid0.coords t) a = (![t.val / 2, 0] : Fin 2 → Nat) a
    ∧ cc0_transform_5 (grid0.coords t) a = (![t.val / 2, 0] : Fin 2 → Nat) a := by
  decide +kernel

/-- A truth value kept as a number is nonzero exactly where it is true. -/
theorem kept_bit : ∀ b : BitVec 1, Scalar.cmpi .ne (Scalar.extui b : BitVec 32) 0#32 = 1#1 ↔ b = 1#1 := by decide

variable (m : (ℓ : Loc nD τ sig) → Buf (Elt Ideal) ℓ)

/-- The block of a grid point. -/
noncomputable def block (t : Fin grid0.N) : Fin 136 := ⟨t.val / 2, by have h : t.val < 272 := t.isLt; omega⟩

/-- Whether a block is in use, as the index arithmetic has it. -/
abbrev used (i : Fin 136) : BitVec 1 := IntOp.cmpi .slt (BitVec.ofNat 32 i.val) (inUse m)

theorem coord_block (t : Fin grid0.N) : grid0.coords t 0 = block t := Fin.ext (coords_eq t).1

theorem live_iff (t : Fin grid0.N) : Live (F := Ideal) 0 (grid0.coords t) (tbl m 0) ↔ used m (block t) = 1#1 := by
  have hw : tbM0_0.view.readAt (Elt Ideal) (Rect.unit (s := S137) ![136] S1.size inb_S137_S1_136).toLoadRect (tbl m 0) (Shape.Idx.first (numel1_S1.symm ▸ Nat.one_pos)) = inUse m :=
    word_inUse m _ rfl
  unfold Live
  rw [hw]
  unfold cond0_1
  refine (kept_bit _).trans ?_
  rw [coord_block]
  rfl

theorem half_live (t : Fin grid0.N) (hl : used m (block t) = 1#1) : (half m (grid0.coords t)).toNat = t.val % 2 := by
  have e : half m (grid0.coords t) = BitVec.ofNat 32 (grid0.coords t 1).val := by
    unfold half
    rw [coord_block]
    exact (congrArg (fun b => Scalar.select b (BitVec.ofNat 32 (grid0.coords t 1).val) 1#32) hl).trans rfl
  rw [e, (coords_eq t).2, BitVec.toNat_ofNat]; omega

variable (hO : Ok m) (h : ∀ i, (expert m i).toNat < 8)

/-- The weights the host hands the region are the arguments, at the ideal values. -/
theorem V_wg (c : Dev nD) : (V m c main_v1 : S8x1024x3584.Idx → EReal) = m ((c : Thread nD τ).loc main_arg4) := by
  dsimp only [V, hostOps0]
  after_results
  all_goals rfl
theorem V_wu (c : Dev nD) : (V m c main_v2 : S8x1024x3584.Idx → EReal) = m ((c : Thread nD τ).loc main_arg5) := by
  dsimp only [V, hostOps0]
  after_results
  all_goals rfl
theorem V_wd (c : Dev nD) : (V m c main_v3 : S8x3584x1024.Idx → EReal) = m ((c : Thread nD τ).loc main_arg6) := by
  dsimp only [V, hostOps0]
  after_results
  all_goals rfl

/-- A block's expert, as one of the eight. -/
noncomputable def chosen (i : Fin 136) : Fin 8 := ⟨(expert m i).toNat, h i⟩

/-- Hidden unit `n` of half `f`. -/
noncomputable def at_half (f : Nat) (hf : f < 2) (n : Fin 1792) : Fin 3584 := ⟨f * 1792 + n.val, by omega⟩

theorem blk_x (t : Fin (cfgM m hO).N) (r : Fin 512) (k : Fin 1024) :
    (iblk m hO 0 0 t : S512x1024.Idx → EReal) (ix2 r k) = (m (((0 : Dev nD) : Thread nD τ).loc main_arg0) : S69632x1024.Idx → EReal) (ix2 (row (block t) r) k) := by
  refine Eq.trans (?_ : _ = (V m 0 main_arg0 : S69632x1024.Idx → EReal) (ix2 (row (block t) r) k)) (congrFun (V_main_arg0 m 0) _)
  show (V m 0 main_arg0 : S69632x1024.Idx → EReal) ((((cfgM m hO).win 0).blk t).view.emb (ix2 r k)) = _
  congr 1
  funext a; apply Fin.ext
  match a with
  | ⟨0, _⟩ =>
    show cc0_transform_0 (grid0.coords t) 0 * 512 + 1 * r.val = t.val / 2 * 512 + r.val
    rw [(index_row t 0).1]; show t.val / 2 * 512 + _ = _; omega
  | ⟨1, _⟩ =>
    show cc0_transform_0 (grid0.coords t) 1 * 1024 + 1 * k.val = k.val
    rw [(index_row t 1).1]; show 0 * 1024 + _ = _; omega

/-- Where an entry of a weight window's block lies in its array. -/
theorem place_2 (t : Fin (cfgM m hO).N) (j : S1x1024x1792.Idx) (a : Fin 3) : (((((cfgM m hO).win 2).blk t).view.emb j : S8x1024x3584.Idx) a).val
    = cc0_transform_2 k0_off1_inb numel1_S1 inb_S137_S1_136 (tbl m) (grid0.coords t) a * S1x1024x1792.size a + 1 * (j a).val := rfl
theorem place_3 (t : Fin (cfgM m hO).N) (j : S1x1024x1792.Idx) (a : Fin 3) : (((((cfgM m hO).win 3).blk t).view.emb j : S8x1024x3584.Idx) a).val
    = cc0_transform_3 k0_off1_inb numel1_S1 inb_S137_S1_136 (tbl m) (grid0.coords t) a * S1x1024x1792.size a + 1 * (j a).val := rfl
theorem place_4 (t : Fin (cfgM m hO).N) (j : S1x1792x1024.Idx) (a : Fin 3) : (((((cfgM m hO).win 4).blk t).view.emb j : S8x3584x1024.Idx) a).val
    = cc0_transform_4 k0_off1_inb numel1_S1 inb_S137_S1_136 (tbl m) (grid0.coords t) a * S1x1792x1024.size a + 1 * (j a).val := rfl

variable (t : Fin (cfgM m hO).N) (hl : used m (block t) = 1#1)
include hl

/-- The weight windows' blocks, where the point's block is in use: the half of the expert's matrices the point names. -/
theorem blk_wg (a : Fin 1024) (n : Fin 1792) : (iblk m hO 0 2 t : S1x1024x1792.Idx → EReal) (ix3 (0 : Fin 1) a n)
    = (m (((0 : Dev nD) : Thread nD τ).loc main_arg4) : S8x1024x3584.Idx → EReal) (ix3 (chosen m h (block t)) a (at_half (t.val % 2) (Nat.mod_lt _ (by decide)) n)) := by
  refine Eq.trans (congrArg (V m 0 main_v1 : S8x1024x3584.Idx → EReal) (?_ : (((cfgM m hO).win 2).blk t).view.emb (ix3 (0 : Fin 1) a n) = ix3 (chosen m h (block t)) a (at_half (t.val % 2) (Nat.mod_lt _ (by decide)) n))) (congrFun (V_wg m 0) _)
  have ht := transform2_eq m (grid0.coords t)
  rw [coord_block, half_live m t hl] at ht
  funext b; apply Fin.ext
  refine (place_2 m hO t _ b).trans ?_
  rw [ht]
  match b with
  | ⟨0, _⟩ =>
    show (expert m (block t)).toNat * 1 + 1 * 0 = (expert m (block t)).toNat; omega
  | ⟨1, _⟩ =>
    show 0 * 1024 + 1 * a.val = a.val; omega
  | ⟨2, _⟩ =>
    show t.val % 2 * 1792 + 1 * n.val = t.val % 2 * 1792 + n.val; omega
theorem blk_wu (a : Fin 1024) (n : Fin 1792) : (iblk m hO 0 3 t : S1x1024x1792.Idx → EReal) (ix3 (0 : Fin 1) a n)
    = (m (((0 : Dev nD) : Thread nD τ).loc main_arg5) : S8x1024x3584.Idx → EReal) (ix3 (chosen m h (block t)) a (at_half (t.val % 2) (Nat.mod_lt _ (by decide)) n)) := by
  refine Eq.trans (congrArg (V m 0 main_v2 : S8x1024x3584.Idx → EReal) (?_ : (((cfgM m hO).win 3).blk t).view.emb (ix3 (0 : Fin 1) a n) = ix3 (chosen m h (block t)) a (at_half (t.val % 2) (Nat.mod_lt _ (by decide)) n))) (congrFun (V_wu m 0) _)
  have ht := transform3_eq m (grid0.coords t)
  rw [coord_block, half_live m t hl] at ht
  funext b; apply Fin.ext
  refine (place_3 m hO t _ b).trans ?_
  rw [ht]
  match b with
  | ⟨0, _⟩ =>
    show (expert m (block t)).toNat * 1 + 1 * 0 = (expert m (block t)).toNat; omega
  | ⟨1, _⟩ =>
    show 0 * 1024 + 1 * a.val = a.val; omega
  | ⟨2, _⟩ =>
    show t.val % 2 * 1792 + 1 * n.val = t.val % 2 * 1792 + n.val; omega
theorem blk_wd (n : Fin 1792) (a : Fin 1024) : (iblk m hO 0 4 t : S1x1792x1024.Idx → EReal) (ix3 (0 : Fin 1) n a)
    = (m (((0 : Dev nD) : Thread nD τ).loc main_arg6) : S8x3584x1024.Idx → EReal) (ix3 (chosen m h (block t)) (at_half (t.val % 2) (Nat.mod_lt _ (by decide)) n) a) := by
  refine Eq.trans (congrArg (V m 0 main_v3 : S8x3584x1024.Idx → EReal) (?_ : (((cfgM m hO).win 4).blk t).view.emb (ix3 (0 : Fin 1) n a) = ix3 (chosen m h (block t)) (at_half (t.val % 2) (Nat.mod_lt _ (by decide)) n) a)) (congrFun (V_wd m 0) _)
  have ht := transform4_eq m (grid0.coords t)
  rw [coord_block, half_live m t hl] at ht
  funext b; apply Fin.ext
  refine (place_4 m hO t _ b).trans ?_
  rw [ht]
  match b with
  | ⟨0, _⟩ =>
    show (expert m (block t)).toNat * 1 + 1 * 0 = (expert m (block t)).toNat; omega
  | ⟨1, _⟩ =>
    show t.val % 2 * 1792 + 1 * n.val = t.val % 2 * 1792 + n.val; omega
  | ⟨2, _⟩ =>
    show 0 * 1024 + 1 * a.val = a.val; omega
omit hl

/-- The first point of an odd point's block. -/
noncomputable def before (ht : t.val % 2 = 1) : Fin (cfgM m hO).N := ⟨t.val - 1, Nat.lt_of_le_of_lt (Nat.sub_le _ _) t.isLt⟩

/-- What the second point of a block in use leaves in the output's block. -/
theorem outs_used (ht : t.val % 2 = 1) (hl : used m (block t) = 1#1) (hl' : used m (block (before m hO t ht)) = 1#1) :
    (outsAt0 m hO 0 t.val t.isLt).1 = k0_pay4 (k0_pay3 (k0_pay1 (iblk m hO 0 0 (before m hO t ht))) (iblk m hO 0 2 t) (iblk m hO 0 3 t)
      (k0_pay3 (k0_pay1 (iblk m hO 0 0 (before m hO t ht))) (iblk m hO 0 2 (before m hO t ht)) (iblk m hO 0 3 (before m hO t ht)) (k0_pay2 (F := Ideal)) (iblk m hO 0 4 (before m hO t ht))) (iblk m hO 0 4 t)) := by
  have hp : (before m hO t ht).val % 2 = 0 := by show (t.val - 1) % 2 = 0; omega
  have e := outsAt0_A m hO 0 (before m hO t ht) hp ((live_iff m _).2 hl') (by omega)
  have e1 : (outsAt0 m hO 0 (t.val - 1) (Nat.lt_of_le_of_lt (Nat.sub_le _ _) t.isLt)).2.1 = k0_pay1 (iblk m hO 0 0 (before m hO t ht)) :=
    (congrArg (fun p => p.2.1) e).trans (by dsimp only; exact rows_A ..)
  have e2 : (outsAt0 m hO 0 (t.val - 1) (Nat.lt_of_le_of_lt (Nat.sub_le _ _) t.isLt)).2.2
      = k0_pay3 (k0_pay1 (iblk m hO 0 0 (before m hO t ht))) (iblk m hO 0 2 (before m hO t ht)) (iblk m hO 0 3 (before m hO t ht)) (k0_pay2 (F := Ideal)) (iblk m hO 0 4 (before m hO t ht)) :=
    (congrArg (fun p => p.2.2) e).trans (by dsimp only; exact sum_A ..)
  refine (congrArg (fun p => p.1) (outsAt0_C m hO 0 t (by omega) ((live_iff m t).2 hl) ht)).trans ?_
  dsimp only
  rw [e1, e2]
  exact out_C ..

/-- And of one not in use. -/
theorem outs_unused (ht : t.val % 2 = 1) (hl : ¬used m (block t) = 1#1) (hl' : ¬used m (block (before m hO t ht)) = 1#1) :
    (outsAt0 m hO 0 t.val t.isLt).1 = k0_pay4 (F := Ideal) (k0_pay2 (F := Ideal)) := by
  have hp : (before m hO t ht).val % 2 = 0 := by show (t.val - 1) % 2 = 0; omega
  have e := outsAt0_B m hO 0 (before m hO t ht) hp (fun q => hl' ((live_iff m _).1 q)) (by omega)
  have e2 : (outsAt0 m hO 0 (t.val - 1) (Nat.lt_of_le_of_lt (Nat.sub_le _ _) t.isLt)).2.2 = k0_pay2 (F := Ideal) :=
    (congrArg (fun p => p.2.2) e).trans (by dsimp only; exact sum_B ..)
  refine (congrArg (fun p => p.1) (outsAt0_D m hO 0 t (by omega) (fun q => hl ((live_iff m t).1 q)) ht)).trans ?_
  dsimp only
  rw [e2]
  exact out_D ..

/-- The reference's result on the kernel's arguments. -/
noncomputable def result (c : Dev nD) : S69632x1024.Idx → EReal :=
  Cert.Reference3Ideal.Read.val_main_v34 (F := Ideal) (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6))

include h in
/-- What a block's second point leaves at a row is the reference's result there. -/
theorem outs_eq (ht : t.val % 2 = 1) (r : Fin 512) (k : Fin 1024) :
    (outsAt0 m hO 0 t.val t.isLt).1 (ix2 r k) = result m 0 (ix2 (row (block t) r) k) := by
  have hb : block (before m hO t ht) = block t := Fin.ext (by show (t.val - 1) / 2 = t.val / 2; omega)
  have he : (m (((0 : Dev nD) : Thread nD τ).loc main_arg1) : S136.Idx → BitVec 32) (ix1 (block t)) = BitVec.ofNat 32 (chosen m h (block t)).val :=
    (BitVec.ofNat_toNat 32 _ |>.trans (BitVec.setWidth_eq _)).symm
  refine Eq.trans ?_ (Cert.Proof.Expert.result_apply _ _ _ _ _ _ (block t) (chosen m h (block t)) he r k).symm
  by_cases hl : used m (block t) = 1#1
  · have hl' : used m (block (before m hO t ht)) = 1#1 := by rw [hb]; exact hl
    have hlow : ∀ n, at_half ((before m hO t ht).val % 2) (Nat.mod_lt _ (by decide)) n = low n := fun n => Fin.ext (by
      show (t.val - 1) % 2 * 1792 + n.val = n.val; omega)
    have hhigh : ∀ n, at_half (t.val % 2) (Nat.mod_lt _ (by decide)) n = high n := fun n => Fin.ext (by
      show t.val % 2 * 1792 + n.val = 1792 + n.val; omega)
    refine (congrFun (outs_used m hO t ht hl hl') (ix2 r k)).trans ?_
    refine (Cert.Proof.Expert.tile_rows _ _ _ _ (block t) (chosen m h (block t)) _ _ _ _ _ _ _
      (fun r c => (blk_x m hO (before m hO t ht) r c).trans (by rw [hb]))
      (fun c n => (blk_wg m hO h (before m hO t ht) hl' c n).trans (by rw [hb, hlow])) (fun c n => (blk_wg m hO h t hl c n).trans (by rw [hhigh]))
      (fun c n => (blk_wu m hO h (before m hO t ht) hl' c n).trans (by rw [hb, hlow])) (fun c n => (blk_wu m hO h t hl c n).trans (by rw [hhigh]))
      (fun n c => (blk_wd m hO h (before m hO t ht) hl' n c).trans (by rw [hb, hlow])) (fun n c => (blk_wd m hO h t hl n c).trans (by rw [hhigh])) r k).trans ?_
    exact (if_pos hl).symm
  · have hl' : ¬used m (block (before m hO t ht)) = 1#1 := by rw [hb]; exact hl
    refine (congrFun (outs_unused m hO t ht hl hl') (ix2 r k)).trans ?_
    rw [Cert.Proof.Expert.out_apply, Cert.Proof.Expert.zero_apply]
    exact (if_neg hl).symm

include h in
/-- What point `t` writes back is the reference's result read through the point's block. -/
theorem flushed_eq (hf : ((cfgM m hO).win 5).flush t = true) : (dats m hO 0 0).flushed 5 t
    = (((cfgM m hO).win 5).blk t).view.read (Elt Ideal) (result m 0) := by
  have ht : t.val % 2 = 1 := (flush0_5 _ t).1 hf
  show (((cfgM m hO).win 5).cut (grid0.coords t)) ((dats m hO 0 0).after 5 t) = _
  rw [after0_5]
  funext (j : S512x1024.Idx)
  show (outsAt0 m hO 0 t.val t.isLt).1 j = result m 0 ((((cfgM m hO).win 5).blk t).view.emb j)
  obtain ⟨r, k, rfl⟩ : ∃ (r : Fin 512) (k : Fin 1024), j = ix2 r k := ⟨j 0, j 1, (ix2_eta j).symm⟩
  refine (outs_eq m hO h t ht r k).trans ?_
  congr 1
  funext a; apply Fin.ext
  match a with
  | ⟨0, _⟩ =>
    show t.val / 2 * 512 + r.val = cc0_transform_5 (grid0.coords t) 0 * 512 + 1 * r.val
    rw [(index_row t 0).2]; show _ = t.val / 2 * 512 + _; omega
  | ⟨1, _⟩ =>
    show k.val = cc0_transform_5 (grid0.coords t) 1 * 1024 + 1 * k.val
    rw [(index_row t 1).2]; show _ = 0 * 1024 + _; omega

/-- The blocks cover the array. -/
theorem cover (i : S69632x1024.Idx) : ∃ t, ((cfgM m hO).win 5).flush t = true ∧ i ∈ (((cfgM m hO).win 5).blk t).view.set := by
  have hi : (i 0).val < 69632 := (i 0).isLt
  have hi1 : (i 1).val < 1024 := (i 1).isLt
  refine ⟨(⟨(i 0).val / 512 * 2 + 1, by show _ < 272; omega⟩ : Fin grid0.N), (flush0_5 _ _).2 (by show ((i 0).val / 512 * 2 + 1) % 2 = 1; omega), ?_⟩
  generalize ht : (⟨(i 0).val / 512 * 2 + 1, _⟩ : Fin grid0.N) = t
  have htv : t.val = (i 0).val / 512 * 2 + 1 := by rw [← ht]
  refine Eq.mpr (congrArg (fun s : Finset S69632x1024.Idx => i ∈ s) (View.set_slice_whole main_v4 (((cfgM m hO).win 5).rect t))) ?_
  refine (Rect.mem_set_unit ..).mpr fun a => ?_
  match a with
  | ⟨0, _⟩ =>
    show cc0_transform_5 (grid0.coords t) 0 * 512 ≤ (i 0).val ∧ (i 0).val < cc0_transform_5 (grid0.coords t) 0 * 512 + 512
    rw [(index_row t 0).2]; show t.val / 2 * 512 ≤ _ ∧ _ < t.val / 2 * 512 + 512; omega
  | ⟨1, _⟩ =>
    show cc0_transform_5 (grid0.coords t) 1 * 1024 ≤ (i 1).val ∧ (i 1).val < cc0_transform_5 (grid0.coords t) 1 * 1024 + 1024
    rw [(index_row t 1).2]; show 0 * 1024 ≤ _ ∧ _ < 0 * 1024 + 1024; omega

include h in
/-- So after the run it is the reference's result. -/
theorem final (c : Dev nD) : (dats m hO 0 c).arrAt 5 (cfgM m hO).N = result m c := by
  obtain rfl : c = 0 := Subsingleton.elim _ _
  exact (dats m hO 0 0).arrAt_eq_of_cover 5 (result m 0) (fun t hf => flushed_eq m hO h t hf) (cover m hO)

include h in
/-- The kernel's run at the ideal values: its result is the reference's, its arguments end as they were. -/
theorem run (ρ : Dev nD → PrngReg) : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r hr c => ?_) (run_main m ρ (ok m h))
  have kept (b : Ref sig .tc) (hb : b ∈ Pipeline.restRefs sig spec0) (hV : V m c b = m ((c : Thread nD τ).loc b)) := ((hr c).2 b hb).trans hV
  exact ⟨((hr c).1 5).trans (final m (ok m h) h c), ((hr c).1 0).trans (((dats m (ok m h) 0 c).arrAt_in 0 rfl _).trans ((A_eq m (ok m h) c 0).trans (V_main_arg0 m c))), kept main_arg1 (by decide) (V_main_arg1 m c),
    kept main_arg2 (by decide) (V_main_arg2 m c), ((hr c).1 1).trans (((dats m (ok m h) 0 c).arrAt_in 1 rfl _).trans ((A_eq m (ok m h) c 1).trans (V_main_arg3 m c))), kept main_arg4 (by decide) (V_main_arg4 m c),
    kept main_arg5 (by decide) (V_main_arg5 m c), kept main_arg6 (by decide) (V_main_arg6 m c)⟩

end Cert.Kernel3Ideal.Expert

end
-- ==== Proof.Expert.lean ====
/- The claims about the expert block: its frames, its reference's, and that the two compute one function, where every
   block's expert is one of the eight. -/
module

public import proofs.«01_k».proof.Defs
public import proofs.«01_k».proof.Proof.ExpertValue
public import proofs.«01_k».proof.Proof.Gen.Reference3Ideal.Run
public import proofs.«01_k».proof.Proof.Gen.Reference3Ideal.Read
public import proofs.«01_k».proof.Proof.Gen.Pre_in_range
public import Idealize.ShloMosaic.Lib.StableHlo.Predicate

@[expose] public section

noncomputable section

namespace Cert.Proof.Expert

open Idealize.ShloMosaic Idealize.SL.Sem

theorem both_bits (a b : BitVec 1) (h : IntOp.andi a b = 1#1) : a = 1#1 ∧ b = 1#1 := by revert a b; decide

theorem true_of_bit : ∀ b : Bool, BitVec.ofBool b = 1#1 → b = true := by decide

/-- A number from zero up and under eight, read with its sign, is under eight read without. -/
theorem under_eight (x : BitVec 32) (h0 : IntOp.cmpi .sge x 0#32 = 1#1) (h8 : IntOp.cmpi .slt x 8#32 = 1#1) : x.toNat < 8 := by
  have h0 : (0#32).sle x = true := true_of_bit _ h0
  have h8 : x.slt 8#32 = true := true_of_bit _ h8
  rw [BitVec.sle_eq_decide, decide_eq_true_iff] at h0
  rw [BitVec.slt_eq_decide, decide_eq_true_iff] at h8
  have e0 : (0#32).toInt = 0 := rfl
  have e8 : (8#32).toInt = 8 := rfl
  rw [e0] at h0; rw [e8] at h8
  rw [BitVec.toInt_eq_toNat_cond] at h0 h8
  split at h0 <;> omega

/-- The precondition says of each block's expert that it is one of the eight. -/
theorem in_range {a : IVec Cert.Pre_in_range.S136 32} (h : ∀ x, IntOp.andi (IntOp.cmpi .sge (a x) 0#32) (IntOp.cmpi .slt (a x) 8#32) = 1#1) (x : Cert.Pre_in_range.S136.Idx) :
    (a x).toNat < 8 := under_eight _ (both_bits _ _ (h x)).1 (both_bits _ _ (h x)).2

theorem expert_lt (m : (ℓ : Loc Cert.Kernel3Ideal.nD Cert.Kernel3Ideal.τ Cert.Kernel3Ideal.sig) → Buf (Elt Ideal) ℓ) (h : Cert.Pre_Kernel3Ideal (hPre_in_range := Cert.Pre_in_range.Gen.facts) m) (i : Fin 136) :
    (Cert.Kernel3Ideal.Expert.expert m i).toNat < 8 :=
  in_range (fun x => congrFun (h 0) x) (ix1 i)

theorem expert_lt_bits (m : (ℓ : Loc Cert.Kernel3.nD Cert.Kernel3.τ Cert.Kernel3.sig) → Buf (Elt Bits) ℓ) (h : Cert.Pre_Kernel3 (hPre_in_range := Cert.Pre_in_range.Gen.facts) m) (i : Fin 136) :
    (Cert.Kernel3Ideal.Expert.expert (F := Bits) m i).toNat < 8 :=
  in_range (fun x => congrFun (h 0) x) (ix1 i)

/-- The kernel terminates, leaves its arguments and every counter at zero. -/
theorem frame : Cert.quiescent_Kernel3 (hKernel3 := Cert.Kernel3.Gen.facts) (hPre_in_range := Cert.Pre_in_range.Gen.facts) :=
  fun m g h => Cert.Kernel3.Gen.frame m g (Cert.Kernel3.Expert.ok m (expert_lt_bits m h))

/-- So does its ideal program. -/
theorem frameIdeal : Cert.quiescent_Kernel3Ideal (hKernel3Ideal := Cert.Kernel3Ideal.Gen.facts) (hPre_in_range := Cert.Pre_in_range.Gen.facts) :=
  fun m g h => Cert.Kernel3Ideal.Gen.frame m g (Cert.Kernel3Ideal.Expert.ok m (expert_lt m h))

/-- So does its reference. -/
theorem frameReference : Cert.quiescent_Reference3Ideal (hReference3Ideal := Cert.Reference3Ideal.Gen.facts) (hPre_in_range := Cert.Pre_in_range.Gen.facts) :=
  fun m g _ => (θ_run (Cert.Reference3Ideal.defs (F := Ideal)) _ _).mono
    (fun r h => ⟨fun c => (h c).2, Idealize.ShloMosaic.sem_eq_zero_of_no_sems (by decide) r.2⟩) (Cert.Reference3Ideal.Value.run m g)

/-- Kernel and reference compute the same function over the extended reals. -/
theorem algebraic : Cert.algebraic_Kernel3Ideal_Reference3Ideal (hKernel3Ideal := Cert.Kernel3Ideal.Gen.facts) (hReference3Ideal := Cert.Reference3Ideal.Gen.facts)
    (hPre_in_range := Cert.Pre_in_range.Gen.facts) := by
  intro m g m' g' hp heq
  refine ⟨Cert.Kernel3Ideal.Expert.result m, Cert.Kernel3Ideal.Expert.run m (expert_lt m hp) g, ?_⟩
  refine (θ_run (Cert.Reference3Ideal.defs (F := Ideal)) _ _).mono (fun r h c => ⟨(h c).1.trans ?_, (h c).2⟩) (Cert.Reference3Ideal.Value.run m' g')
  refine (Cert.Reference3Ideal.Read.val_main_v34_eq _ _ _ _ _ _).trans ?_
  obtain ⟨e0, e1, e2, e3, e4, e5, e6⟩ := heq c
  rw [e0, e1, e2, e4, e5, e6]
  rfl

end Cert.Proof.Expert

end
-- ==== Proof.OutProjRows.lean ====
/- The output projection's tile of 1024 rows is the reference's rows that the tile holds. Stated for any placement of the
   rows, at `Ideal`. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Proof.OutProj

open Idealize.ShloMosaic
open Cert.Kernel5Ideal.Gen (k0_pay1 k0_pay2 k0_pay3)
open Cert.Reference5Ideal.Read

/-- The weights' rows of the attention's half and of the recurrence's half. -/
def low (k : Fin 512) : Fin 1024 := ⟨k.val, by omega⟩
def high (k : Fin 512) : Fin 1024 := ⟨512 + k.val, by omega⟩

theorem sum_halves (f : Fin 1024 → EReal) : ∑ k, f k = (∑ k, f (low k)) + ∑ k, f (high k) :=
  Fin.sum_univ_add (a := 512) (b := 512) f

variable (x0 x1 : (⟨Cert.Reference5Ideal.S4x8192x512, .f32⟩ : BufTy).Contents (Elt Ideal)) (x3 x4 : (⟨Cert.Reference5Ideal.S512, .f32⟩ : BufTy).Contents (Elt Ideal))

/-- The two groups' normalised rows stand side by side. -/
theorem mixed_low (b : Fin 4) (t : Fin 8192) (k : Fin 512) :
    val_main_v26 (F := Ideal) x0 x1 x3 x4 (ix3 b t (low k)) = val_main_v12 (F := Ideal) x0 x3 (ix3 b t k) := by
  unfold val_main_v26
  generalize val_main_v12 (F := Ideal) x0 x3 = y
  generalize val_main_v25 (F := Ideal) x1 x4 = z
  pointwise [low]
theorem mixed_high (b : Fin 4) (t : Fin 8192) (k : Fin 512) :
    val_main_v26 (F := Ideal) x0 x1 x3 x4 (ix3 b t (high k)) = val_main_v25 (F := Ideal) x1 x4 (ix3 b t k) := by
  unfold val_main_v26
  generalize val_main_v12 (F := Ideal) x0 x3 = y
  generalize val_main_v25 (F := Ideal) x1 x4 = z
  pointwise [high]

variable (β : Fin 1024 → Fin 4) (ρ : Fin 1024 → Fin 8192)
variable (x5 : (⟨Cert.Reference5Ideal.S1024x1024, .f32⟩ : BufTy).Contents (Elt Ideal))

/-- The attention's half of the product. -/
theorem attn_rows (o : Vec Ideal Cert.Kernel5Ideal.S1x512x1024 .bf16) (g : Vec Ideal Cert.Kernel5Ideal.S1x512 .f32) (w : Vec Ideal Cert.Kernel5Ideal.S512x1024 .bf16)
    (ho : ∀ k r, o (ix3 0 k r) = x0 (ix3 (β r) (ρ r) k)) (hg : ∀ k, g (ix2 0 k) = x3 (ix1 k)) (hw : ∀ k n, w (ix2 k n) = x5 (ix2 (low k) n))
    (r n : Fin 1024) :
    k0_pay3 (F := Ideal) o g w (ix2 r n) = ∑ k : Fin 512, val_main_v12 (F := Ideal) x0 x3 (ix3 (β r) (ρ r) k) * x5 (ix2 (low k) n) := by
  pointwise [k0_pay3, val_main_v12, val_main_v11, val_main_v10, val_main_v9, val_main_v8, val_main_v7, val_main_v6, val_main_v5, val_main_v4, val_main_v3, val_main_v2, val_main_v1, val_main_v0, val_main_cst, val_main_cst_0, val_main_cst_1]
  simp only [ho, hg, hw]

/-- The recurrence's normalised rows. -/
theorem rec_rows (o : Vec Ideal Cert.Kernel5Ideal.S1x1024x512 .bf16) (g : Vec Ideal Cert.Kernel5Ideal.S1x512 .f32)
    (ho : ∀ r k, o (ix3 0 r k) = x1 (ix3 (β r) (ρ r) k)) (hg : ∀ k, g (ix2 0 k) = x4 (ix1 k)) (r : Fin 1024) (k : Fin 512) :
    k0_pay2 (F := Ideal) o g (ix2 r k) = val_main_v25 (F := Ideal) x1 x4 (ix3 (β r) (ρ r) k) := by
  pointwise [k0_pay2, val_main_v25, val_main_v24, val_main_v23, val_main_v22, val_main_v21, val_main_v20, val_main_v19, val_main_v18, val_main_v17, val_main_v16, val_main_v15, val_main_v14, val_main_v13, val_main_cst_2, val_main_cst_3, val_main_cst_4]
  simp only [ho, hg]

variable (x2 : (⟨Cert.Reference5Ideal.S4x8192x1024, .f32⟩ : BufTy).Contents (Elt Ideal))

/-- A whole tile. -/
theorem tile_rows (oa : Vec Ideal Cert.Kernel5Ideal.S1x512x1024 .bf16) (orec : Vec Ideal Cert.Kernel5Ideal.S1x1024x512 .bf16) (x : Vec Ideal Cert.Kernel5Ideal.S1x1024x1024 .f32)
    (ga gr : Vec Ideal Cert.Kernel5Ideal.S1x512 .f32) (wa wr : Vec Ideal Cert.Kernel5Ideal.S512x1024 .bf16)
    (hoa : ∀ k r, oa (ix3 0 k r) = x0 (ix3 (β r) (ρ r) k)) (hor : ∀ r k, orec (ix3 0 r k) = x1 (ix3 (β r) (ρ r) k)) (hx : ∀ r k, x (ix3 0 r k) = x2 (ix3 (β r) (ρ r) k))
    (hga : ∀ k, ga (ix2 0 k) = x3 (ix1 k)) (hgr : ∀ k, gr (ix2 0 k) = x4 (ix1 k))
    (hwa : ∀ k n, wa (ix2 k n) = x5 (ix2 (low k) n)) (hwr : ∀ k n, wr (ix2 k n) = x5 (ix2 (high k) n)) (r n : Fin 1024) :
    k0_pay1 (F := Ideal) (k0_pay2 orec gr) (k0_pay3 oa ga wa) wr x (ix3 0 r n)
      = val_main_v28 (F := Ideal) x0 x1 x2 x3 x4 x5 (ix3 (β r) (ρ r) n) := by
  have ha := attn_rows x0 x3 β ρ x5 oa ga wa hoa hga hwa r n
  have hr := rec_rows x1 x4 β ρ orec gr hor hgr r
  revert ha hr
  generalize k0_pay3 (F := Ideal) oa ga wa = A
  generalize k0_pay2 (F := Ideal) orec gr = B
  intro ha hr
  have hk : k0_pay1 (F := Ideal) B A wr x (ix3 0 r n) = x (ix3 0 r n) + (A (ix2 r n) + ∑ k : Fin 512, B (ix2 r k) * wr (ix2 k n)) := by
    pointwise [k0_pay1]
  have hv : val_main_v27 (F := Ideal) x0 x1 x3 x4 x5 (ix3 (β r) (ρ r) n)
      = ∑ k : Fin 1024, val_main_v26 (F := Ideal) x0 x1 x3 x4 (ix3 (β r) (ρ r) k) * x5 (ix2 k n) := by
    unfold val_main_v27
    generalize val_main_v26 (F := Ideal) x0 x1 x3 x4 = y
    pointwise []
  rw [hk, ha, hx]
  show _ = x2 (ix3 (β r) (ρ r) n) + val_main_v27 (F := Ideal) x0 x1 x3 x4 x5 (ix3 (β r) (ρ r) n)
  rw [hv, sum_halves]
  simp only [hr, hwr, mixed_low, mixed_high]

end Cert.Proof.OutProj

end
-- ==== Proof.OutProjValue.lean ====
/- What the output projection's kernel computes: its array after the run, tile by tile, is the reference's result. -/
module

public import proofs.«01_k».proof.Proof.OutProjRows
public import Idealize.ShloMosaic.Lib.VecWindow

@[expose] public section

set_option maxRecDepth 16384

noncomputable section

namespace Cert.Kernel5Ideal.OutProj

open Idealize.ShloMosaic Idealize.ShloMosaic.TcCoe Idealize.ShloMosaic.Tactic Idealize.SL.Sem
open Idealize.ShloMosaic.Pipeline (Dat Window)
open Cert.Kernel5Ideal Cert.Kernel5Ideal.Gen
open Cert.Proof.OutProj (low high)

theorem hz : (![0, 0] : Fin 2 → Nat) = fun _ => 0 := funext fun a => by fin_cases a <;> rfl
theorem hz3 : (![0, 0, 0] : Fin 3 → Nat) = fun _ => 0 := funext fun a => by fin_cases a <;> rfl

/-- What a grid point leaves in the output's block: the body's arithmetic on the point's input blocks. -/
theorem out_eq {F : FTy → Type} [FloatOps F] (x0 : Vec F S1x512x1024 .bf16) (x1 : Vec F S1x1024x512 .bf16) (x2 : Vec F S1x1024x1024 .f32) (x3 x4 : Vec F S1x512 .f32) (x5 x6 : Vec F S512x1024 .bf16) :
    out0_7 x0 x1 x2 x3 x4 x5 x6 = k0_pay1 (k0_pay2 x1 x4) (k0_pay3 x0 x3 x5) x6 x2 := by
  unfold out0_7
  rw [View.canon_unit_zero (S := S1x1024x1024) hz3, View.ld_unit_zero (S := S1x1024x512) hz3, View.ld_unit_zero (S := S1x512x1024) hz3, View.ld_unit_zero (S := S1x1024x1024) hz3,
    View.ld_unit_zero (S := S1x512) hz, View.ld_unit_zero (S := S1x512) hz, View.ld_unit_zero (S := S512x1024) hz, View.ld_unit_zero (S := S512x1024) hz]

variable (m : (ℓ : Loc nD τ sig) → Buf (Elt Ideal) ℓ) (c : Dev nD)

/-- What the host hands the region: the attention's rows as columns, the weights' two halves, the norms as rows. -/
theorem V_attn (b : Fin 4) (k : Fin 512) (r : Fin 8192) : (V m c main_v1 : S4x512x8192.Idx → EReal) (ix3 b k r) = (m ((c : Thread nD τ).loc main_arg0) : S4x8192x512.Idx → EReal) (ix3 b r k) := by
  dsimp only [V, hostOps0]
  after_results
  pointwise []
theorem V_rec : (V m c main_v2 : S4x8192x512.Idx → EReal) = m ((c : Thread nD τ).loc main_arg1) := by
  dsimp only [V, hostOps0]
  after_results
  rfl
theorem V_low (k : Fin 512) (n : Fin 1024) : (V m c main_v4 : S512x1024.Idx → EReal) (ix2 k n) = (m ((c : Thread nD τ).loc main_arg5) : S1024x1024.Idx → EReal) (ix2 (low k) n) := by
  dsimp only [V, hostOps0]
  after_results
  pointwise [low]
theorem V_high (k : Fin 512) (n : Fin 1024) : (V m c main_v6 : S512x1024.Idx → EReal) (ix2 k n) = (m ((c : Thread nD τ).loc main_arg5) : S1024x1024.Idx → EReal) (ix2 (high k) n) := by
  dsimp only [V, hostOps0]
  after_results
  pointwise [high]
theorem V_ga (k : Fin 512) : (V m c main_v7 : S1x512.Idx → EReal) (ix2 0 k) = (m ((c : Thread nD τ).loc main_arg3) : S512.Idx → EReal) (ix1 k) := by
  dsimp only [V, hostOps0]
  after_results
  pointwise []
theorem V_gr (k : Fin 512) : (V m c main_v8 : S1x512.Idx → EReal) (ix2 0 k) = (m ((c : Thread nD τ).loc main_arg4) : S512.Idx → EReal) (ix1 k) := by
  dsimp only [V, hostOps0]
  after_results
  pointwise []

/-- A tile's batch, and its row `r` as a row of the batch. -/
def batch (t : Fin cfg0.N) : Fin 4 := ⟨t.val / 8, by have h : t.val < 32 := t.isLt; omega⟩
def row (t : Fin cfg0.N) (r : Fin 1024) : Fin 8192 := ⟨t.val % 8 * 1024 + r.val, by omega⟩

theorem index_cols : ∀ (t : Fin grid0.N) (a : Fin 3), cc0_transform_0 (grid0.coords t) a = (![t.val / 8, 0, t.val % 8] : Fin 3 → Nat) a := by
  decide +kernel
theorem index_rows : ∀ (t : Fin grid0.N) (a : Fin 3), cc0_transform_1 (grid0.coords t) a = (![t.val / 8, t.val % 8, 0] : Fin 3 → Nat) a
    ∧ cc0_transform_2 (grid0.coords t) a = (![t.val / 8, t.val % 8, 0] : Fin 3 → Nat) a ∧ cc0_transform_7 (grid0.coords t) a = (![t.val / 8, t.val % 8, 0] : Fin 3 → Nat) a := by
  decide +kernel

theorem blk_attn (t : Fin cfg0.N) (k : Fin 512) (r : Fin 1024) :
    (iblk m c 0 t : S1x512x1024.Idx → EReal) (ix3 0 k r) = (V m c main_v1 : S4x512x8192.Idx → EReal) (ix3 (batch t) k (row t r)) := by
  show (V m c main_v1 : S4x512x8192.Idx → EReal) (((cfg0.win 0).blk t).view.emb (ix3 0 k r)) = _
  congr 1
  funext a; apply Fin.ext
  match a with
  | ⟨0, _⟩ =>
    show cc0_transform_0 (grid0.coords t) 0 * 1 + 1 * 0 = t.val / 8
    rw [index_cols t 0]; show t.val / 8 * 1 + _ = _; omega
  | ⟨1, _⟩ =>
    show cc0_transform_0 (grid0.coords t) 1 * 512 + 1 * k.val = k.val
    rw [index_cols t 1]; show 0 * 512 + _ = _; omega
  | ⟨2, _⟩ =>
    show cc0_transform_0 (grid0.coords t) 2 * 1024 + 1 * r.val = t.val % 8 * 1024 + r.val
    rw [index_cols t 2]; show t.val % 8 * 1024 + _ = _; omega
theorem blk_rec (t : Fin cfg0.N) (r : Fin 1024) (k : Fin 512) :
    (iblk m c 1 t : S1x1024x512.Idx → EReal) (ix3 0 r k) = (V m c main_v2 : S4x8192x512.Idx → EReal) (ix3 (batch t) (row t r) k) := by
  show (V m c main_v2 : S4x8192x512.Idx → EReal) (((cfg0.win 1).blk t).view.emb (ix3 0 r k)) = _
  congr 1
  funext a; apply Fin.ext
  match a with
  | ⟨0, _⟩ =>
    show cc0_transform_1 (grid0.coords t) 0 * 1 + 1 * 0 = t.val / 8
    rw [(index_rows t 0).1]; show t.val / 8 * 1 + _ = _; omega
  | ⟨1, _⟩ =>
    show cc0_transform_1 (grid0.coords t) 1 * 1024 + 1 * r.val = t.val % 8 * 1024 + r.val
    rw [(index_rows t 1).1]; show t.val % 8 * 1024 + _ = _; omega
  | ⟨2, _⟩ =>
    show cc0_transform_1 (grid0.coords t) 2 * 512 + 1 * k.val = k.val
    rw [(index_rows t 2).1]; show 0 * 512 + _ = _; omega
theorem blk_x (t : Fin cfg0.N) (r k : Fin 1024) :
    (iblk m c 2 t : S1x1024x1024.Idx → EReal) (ix3 0 r k) = (V m c main_arg2 : S4x8192x1024.Idx → EReal) (ix3 (batch t) (row t r) k) := by
  show (V m c main_arg2 : S4x8192x1024.Idx → EReal) (((cfg0.win 2).blk t).view.emb (ix3 0 r k)) = _
  congr 1
  funext a; apply Fin.ext
  match a with
  | ⟨0, _⟩ =>
    show cc0_transform_2 (grid0.coords t) 0 * 1 + 1 * 0 = t.val / 8
    rw [(index_rows t 0).2.1]; show t.val / 8 * 1 + _ = _; omega
  | ⟨1, _⟩ =>
    show cc0_transform_2 (grid0.coords t) 1 * 1024 + 1 * r.val = t.val % 8 * 1024 + r.val
    rw [(index_rows t 1).2.1]; show t.val % 8 * 1024 + _ = _; omega
  | ⟨2, _⟩ =>
    show cc0_transform_2 (grid0.coords t) 2 * 1024 + 1 * k.val = k.val
    rw [(index_rows t 2).2.1]; show 0 * 1024 + _ = _; omega

/-- A window whose block index is zero holds its whole array. -/
theorem blk_whole (t : Fin cfg0.N) :
    iblk m c 3 t = V m c main_v7 ∧ iblk m c 4 t = V m c main_v8 ∧ iblk m c 5 t = V m c main_v4 ∧ iblk m c 6 t = V m c main_v6 := by
  refine ⟨?_, ?_, ?_, ?_⟩
  · exact Memref.read_access_unit_zero (Elt Ideal) main_v7 (funext fun a => by fin_cases a <;> rfl) _ _
  · exact Memref.read_access_unit_zero (Elt Ideal) main_v8 (funext fun a => by fin_cases a <;> rfl) _ _
  · exact Memref.read_access_unit_zero (Elt Ideal) main_v4 (funext fun a => by fin_cases a <;> rfl) _ _
  · exact Memref.read_access_unit_zero (Elt Ideal) main_v6 (funext fun a => by fin_cases a <;> rfl) _ _

/-- The reference's result on the kernel's arguments. -/
noncomputable def result : S4x8192x1024.Idx → EReal :=
  Cert.Reference5Ideal.Read.val_main_v28 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- What point `t` writes back is the reference's result read through the point's block. -/
theorem flushed_eq (t : Fin cfg0.N) : (dats m 0 c).flushed 7 t = ((cfg0.win 7).blk t).view.read (Elt Ideal) (result m c) := by
  rw [Value.flushed7, out_eq]
  funext (j : S1x1024x1024.Idx)
  show k0_pay1 (F := Ideal) _ _ _ _ j = result m c (((cfg0.win 7).blk t).view.emb j)
  obtain ⟨h3, h4, h5, h6⟩ := blk_whole m c t
  obtain ⟨z, r, n, rfl⟩ : ∃ (z : Fin 1) (r n : Fin 1024), j = ix3 z r n := ⟨j 0, j 1, j 2, (ix3_eta j).symm⟩
  obtain rfl : z = 0 := Subsingleton.elim _ _
  refine (Cert.Proof.OutProj.tile_rows (m ((c : Thread nD τ).loc main_arg0)) (m ((c : Thread nD τ).loc main_arg1)) (m ((c : Thread nD τ).loc main_arg3)) (m ((c : Thread nD τ).loc main_arg4))
    (fun _ => batch t) (row t) (m ((c : Thread nD τ).loc main_arg5)) (m ((c : Thread nD τ).loc main_arg2)) _ _ _ _ _ _ _
    (fun k r => (blk_attn m c t k r).trans (V_attn m c _ _ _)) (fun r k => (blk_rec m c t r k).trans (congrFun (V_rec m c) _)) (fun r k => (blk_x m c t r k).trans (congrFun (V_main_arg2 m c) _))
    (fun k => (congrFun h3 (ix2 0 k : S1x512.Idx)).trans (V_ga m c k)) (fun k => (congrFun h4 (ix2 0 k : S1x512.Idx)).trans (V_gr m c k))
    (fun k n => (congrFun h5 (ix2 k n : S512x1024.Idx)).trans (V_low m c k n)) (fun k n => (congrFun h6 (ix2 k n : S512x1024.Idx)).trans (V_high m c k n)) r n).trans ?_
  unfold result
  congr 1
  funext a; apply Fin.ext
  match a with
  | ⟨0, _⟩ =>
    show t.val / 8 = cc0_transform_7 (grid0.coords t) 0 * 1 + 1 * 0
    rw [(index_rows t 0).2.2]; show _ = t.val / 8 * 1 + _; omega
  | ⟨1, _⟩ =>
    show t.val % 8 * 1024 + r.val = cc0_transform_7 (grid0.coords t) 1 * 1024 + 1 * r.val
    rw [(index_rows t 1).2.2]; show _ = t.val % 8 * 1024 + _; omega
  | ⟨2, _⟩ =>
    show n.val = cc0_transform_7 (grid0.coords t) 2 * 1024 + 1 * n.val
    rw [(index_rows t 2).2.2]; show _ = 0 * 1024 + _; omega

/-- The tiles cover the array. -/
theorem cover (i : S4x8192x1024.Idx) : ∃ t, (cfg0.win 7).flush t = true ∧ i ∈ ((cfg0.win 7).blk t).view.set := by
  have hi : (i 0).val < 4 := (i 0).isLt
  have hi1 : (i 1).val < 8192 := (i 1).isLt
  have hi2 : (i 2).val < 1024 := (i 2).isLt
  refine ⟨(⟨(i 0).val * 8 + (i 1).val / 1024, by show _ < 32; omega⟩ : Fin grid0.N), flush0_7 _, ?_⟩
  generalize ht : (⟨(i 0).val * 8 + (i 1).val / 1024, _⟩ : Fin grid0.N) = t
  have htv : t.val = (i 0).val * 8 + (i 1).val / 1024 := by rw [← ht]
  refine Eq.mpr (congrArg (fun s : Finset S4x8192x1024.Idx => i ∈ s) (View.set_slice_whole main_v9 ((cfg0.win 7).rect t))) ?_
  refine (Rect.mem_set_unit ..).mpr fun a => ?_
  match a with
  | ⟨0, _⟩ =>
    show cc0_transform_7 (grid0.coords t) 0 * 1 ≤ (i 0).val ∧ (i 0).val < cc0_transform_7 (grid0.coords t) 0 * 1 + 1
    rw [(index_rows t 0).2.2]; show t.val / 8 * 1 ≤ _ ∧ _ < t.val / 8 * 1 + 1; omega
  | ⟨1, _⟩ =>
    show cc0_transform_7 (grid0.coords t) 1 * 1024 ≤ (i 1).val ∧ (i 1).val < cc0_transform_7 (grid0.coords t) 1 * 1024 + 1024
    rw [(index_rows t 1).2.2]; show t.val % 8 * 1024 ≤ _ ∧ _ < t.val % 8 * 1024 + 1024; omega
  | ⟨2, _⟩ =>
    show cc0_transform_7 (grid0.coords t) 2 * 1024 ≤ (i 2).val ∧ (i 2).val < cc0_transform_7 (grid0.coords t) 2 * 1024 + 1024
    rw [(index_rows t 2).2.2]; show 0 * 1024 ≤ _ ∧ _ < 0 * 1024 + 1024; omega

/-- So after the run it is the reference's result. -/
theorem final : (dats m 0 c).arrAt 7 cfg0.N = result m c :=
  (dats m 0 c).arrAt_eq_of_cover 7 (result m c) (fun t _ => flushed_eq m c t) cover

end Cert.Kernel5Ideal.OutProj

end
-- ==== Proof.OutProj.lean ====
/- The claims about the output projection: its frames, its reference's, and that the two compute one function. -/
module

public import proofs.«01_k».proof.Defs
public import proofs.«01_k».proof.Proof.OutProjValue
public import proofs.«01_k».proof.Proof.Gen.Kernel5.Frame

@[expose] public section

noncomputable section

namespace Cert.Proof.OutProj

open Idealize.ShloMosaic Idealize.SL.Sem

/-- The kernel terminates, leaves its arguments and every counter at zero. -/
theorem frame : Cert.quiescent_Kernel5 (hKernel5 := Cert.Kernel5.Gen.facts) :=
  fun m g _ => Cert.Kernel5.Gen.frame m g

/-- So does its ideal program. -/
theorem frameIdeal : Cert.quiescent_Kernel5Ideal (hKernel5Ideal := Cert.Kernel5Ideal.Gen.facts) :=
  fun m g _ => Cert.Kernel5Ideal.Gen.frame m g

/-- So does its reference. -/
theorem frameReference : Cert.quiescent_Reference5Ideal (hReference5Ideal := Cert.Reference5Ideal.Gen.facts) :=
  fun m g _ => (θ_run (Cert.Reference5Ideal.defs (F := Ideal)) _ _).mono
    (fun r h => ⟨fun c => (h c).2, Idealize.ShloMosaic.sem_eq_zero_of_no_sems (by decide) r.2⟩) (Cert.Reference5Ideal.Value.run m g)

/-- Kernel and reference compute the same function over the extended reals. -/
theorem algebraic : Cert.algebraic_Kernel5Ideal_Reference5Ideal (hKernel5Ideal := Cert.Kernel5Ideal.Gen.facts) (hReference5Ideal := Cert.Reference5Ideal.Gen.facts) := by
  intro m g m' g' _ heq
  refine ⟨Cert.Kernel5Ideal.OutProj.result m, ?_, ?_⟩
  · exact (θ_run (Cert.Kernel5Ideal.defs (F := Ideal)) _ _).mono (fun r h c => ⟨(h c).1.trans (Cert.Kernel5Ideal.OutProj.final m c), (h c).2⟩) (Cert.Kernel5Ideal.Value.run_blocks m g)
  refine (θ_run (Cert.Reference5Ideal.defs (F := Ideal)) _ _).mono (fun r h c => ⟨(h c).1.trans ?_, (h c).2⟩) (Cert.Reference5Ideal.Value.run m' g')
  refine (Cert.Reference5Ideal.Read.val_main_v28_eq _ _ _ _ _ _).trans ?_
  obtain ⟨e0, e1, e2, e3, e4, e5⟩ := heq c
  rw [e0, e1, e2, e3, e4, e5]
  rfl

end Cert.Proof.OutProj

end
-- ==== Proof.CombineSame.lean ====
/- The combination's two programs have the same text: their bodies, tables and hosts are equal over any numbers. -/
module

public import proofs.«01_k».proof.Defs
public import proofs.«01_k».proof.Proof.Gen.Kernel6
public import proofs.«01_k».proof.Proof.Gen.Kernel6Ideal

@[expose] public section

set_option maxRecDepth 16384
set_option maxHeartbeats 2000000

noncomputable section

namespace Cert.Proof.Combine

open Idealize.ShloMosaic

variable {F : FTy → Type} [FloatOps F]

theorem same_body : @Cert.Kernel6.cc0_moe_combine F _ _ = @Cert.Kernel6Ideal.cc0_moe_combine F _ _ := rfl

theorem same_table : Cert.Kernel6.defs₀ (F := F) = Cert.Kernel6Ideal.defs₀ (F := F) := by
  unfold Cert.Kernel6.defs₀ Cert.Kernel6Ideal.defs₀
  rw [same_body]
  refine congrArg Defs.onTc (funext fun l => ?_)
  match l with
  | 0 => rfl
  | ⟨n + 1, h⟩ => exact absurd h (Nat.not_lt.2 (Nat.le_add_left _ _))

theorem same_calls : @Cert.Kernel6.pcfgs F _ _ = @Cert.Kernel6Ideal.pcfgs F _ _ := rfl

theorem same_defs : Cert.Kernel6.defs (F := F) = Cert.Kernel6Ideal.defs (F := F) :=
  congrArg (Pipeline.defs (Cert.Kernel6Ideal.pcfgs (F := F))) same_table

theorem same_main : Cert.Kernel6.main (F := F) = Cert.Kernel6Ideal.main (F := F) := rfl

end Cert.Proof.Combine

end
-- ==== Proof.CombineRows.lean ====
/- The combination of the experts' rows, one window at a time: a window of 256 rows adds, to each token's sum, its two
   experts' rows that lie in it, each by its weight. Where each row a token names lies in exactly one window, the sum over
   the sixteen windows is the two rows by their weights, as the reference has it. Stated at `Ideal`. -/
module

public import proofs.«01_k».proof.Proof.Gen.Kernel6Ideal.Skeleton
public import Idealize.ShloMosaic.Lib.Pointwise

@[expose] public section

set_option maxRecDepth 16384

noncomputable section

namespace Cert.Proof.Combine

open Idealize.ShloMosaic
open Cert.Kernel6Ideal.Gen (k0_pay1 k0_pay2)

/-- The first row of a window, or a row no token names where the window is not used. -/
def base (vt jt : BitVec 32) : BitVec 32 := Scalar.select (Scalar.cmpi .eq vt 1#32) (Scalar.muli jt 256#32) 4294966784#32

/-- A token's row lies in the window. -/
def Hit (vt jt d : BitVec 32) : Prop := vt = 1#32 ∧ d.toNat / 256 = jt.toNat

instance (vt jt d : BitVec 32) : Decidable (Hit vt jt d) := inferInstanceAs (Decidable (_ ∧ _))

/-- The place of a row in its window. -/
def lane (d : BitVec 32) : Fin 256 := ⟨d.toNat % 256, Nat.mod_lt _ (by decide)⟩

theorem base_used (jt : BitVec 32) : base 1#32 jt = jt * 256#32 := rfl

theorem base_unused (vt jt : BitVec 32) (h : vt ≠ 1#32) : base vt jt = 4294966784#32 := by
  unfold base Scalar.select Scalar.cmpi IntOp.cmpi
  have e : (vt == 1#32) = false := by simpa using h
  simp [e]

/-- Lane `l` of a window is a token's row exactly where the row lies in the window, at its place. -/
theorem lane_iff (vt jt d : BitVec 32) (hd : d.toNat < 69632) (hj : jt.toNat < 272) (l : Fin 256) :
    BitVec.ofNat 32 l.val = d - base vt jt ↔ Hit vt jt d ∧ l = lane d := by
  have hl := l.isLt
  unfold Hit
  by_cases hv : vt = 1#32
  · subst hv
    rw [base_used, ← BitVec.toNat_inj, BitVec.toNat_sub, BitVec.toNat_mul, BitVec.toNat_ofNat, BitVec.toNat_ofNat, Fin.ext_iff]
    show _ ↔ (_ ∧ _) ∧ l.val = d.toNat % 256
    simp only [true_and]
    omega
  · rw [base_unused _ _ hv, ← BitVec.toNat_inj, BitVec.toNat_sub, BitVec.toNat_ofNat, BitVec.toNat_ofNat]
    constructor
    · intro h; omega
    · rintro ⟨⟨h, _⟩, _⟩; exact absurd h hv

/-- The weight a lane takes from one of a token's two rows. -/
def pick (d : BitVec 32) (g : EReal) (l : Fin 256) : EReal := Scalar.select (IntOp.cmpi .eq (BitVec.ofNat 32 l.val) d) g 0

theorem pick_eq (vt jt d : BitVec 32) (hd : d.toNat < 69632) (hj : jt.toNat < 272) (g : EReal) (l : Fin 256) :
    pick (d - base vt jt) g l = if Hit vt jt d ∧ l = lane d then g else 0 := by
  unfold pick Scalar.select IntOp.cmpi
  by_cases h : BitVec.ofNat 32 l.val = d - base vt jt
  · rw [if_pos ((lane_iff vt jt d hd hj l).1 h)]
    simp [h]
  · rw [if_neg fun q => h ((lane_iff vt jt d hd hj l).2 q)]
    have e : (BitVec.ofNat 32 l.val == d - base vt jt) = false := beq_eq_false_iff_ne.2 h
    simp only [e]
    rfl

/-- One row's part of a window's sum: nothing, or its weight times the window's row at its place. -/
theorem one_row (P : Prop) [Decidable P] (L : Fin 256) (g : EReal) (y : Fin 256 → EReal) :
    ∑ l, (if P ∧ l = L then g else 0) * y l = if P then g * y L else 0 := by
  by_cases h : P
  · rw [if_pos h, Finset.sum_eq_single L]
    · rw [if_pos ⟨h, rfl⟩]
    · intro l _ hl; rw [if_neg fun q => hl q.2, zero_mul]
    · intro hl; exact absurd (Finset.mem_univ L) hl
  · rw [if_neg h]
    exact Finset.sum_eq_zero fun l _ => by rw [if_neg fun q => h q.1, zero_mul]

/-- What a window adds to a token's sum, the token's two rows being distinct. -/
theorem window_sum (vt jt d0 d1 : BitVec 32) (h0 : d0.toNat < 69632) (h1 : d1.toNat < 69632) (hj : jt.toNat < 272) (hne : d0 ≠ d1)
    (g0 g1 : EReal) (y : Fin 256 → EReal) :
    ∑ l, (pick (d0 - base vt jt) g0 l + pick (d1 - base vt jt) g1 l) * y l
      = (if Hit vt jt d0 then g0 * y (lane d0) else 0) + (if Hit vt jt d1 then g1 * y (lane d1) else 0) := by
  rw [← one_row, ← one_row, ← Finset.sum_add_distrib]
  refine Finset.sum_congr rfl fun l _ => ?_
  rw [pick_eq vt jt d0 h0 hj, pick_eq vt jt d1 h1 hj]
  by_cases a : Hit vt jt d0 ∧ l = lane d0
  · have b : ¬(Hit vt jt d1 ∧ l = lane d1) := by
      rintro ⟨⟨_, b1⟩, b2⟩
      obtain ⟨⟨_, a1⟩, a2⟩ := a
      have e : d0.toNat % 256 = d1.toNat % 256 := congrArg Fin.val (a2.symm.trans b2)
      exact hne (BitVec.eq_of_toNat_eq (by omega))
    rw [if_pos a, if_neg b, add_zero, zero_mul, add_zero]
  · rw [if_neg a, zero_add, zero_mul, zero_add]

/-- A window's step at an entry of a tile. -/
theorem step_apply (v0 : Vec Ideal Cert.Kernel6Ideal.S256x2 .i32) (v1 : Vec Ideal Cert.Kernel6Ideal.S256x2 .f32) (acc : Vec Ideal Cert.Kernel6Ideal.S256x1024 .f32)
    (vt jt : BitVec 32) (y : Vec Ideal Cert.Kernel6Ideal.S256x1024 .bf16) (r : Fin 256) (n : Fin 1024) :
    k0_pay2 (F := Ideal) v0 v1 acc vt jt y (ix2 r n)
      = (acc (ix2 r n) : EReal) + ∑ l : Fin 256, (pick (v0 (ix2 r 0) - base vt jt) (v1 (ix2 r 0)) l + pick (v0 (ix2 r 1) - base vt jt) (v1 (ix2 r 1)) l) * y (ix2 l n) := by
  pointwise [k0_pay2, pick, base]
  rfl

/-- The sum over sixteen windows, one after another. -/
def chain (v0 : Vec Ideal Cert.Kernel6Ideal.S256x2 .i32) (v1 : Vec Ideal Cert.Kernel6Ideal.S256x2 .f32) (x : Vec Ideal Cert.Kernel6Ideal.S256x1024 .f32)
    (vt jt : Fin 16 → BitVec 32) (y : Fin 16 → Vec Ideal Cert.Kernel6Ideal.S256x1024 .bf16) : Vec Ideal Cert.Kernel6Ideal.S256x1024 .f32 :=
  let s := fun (k : Fin 16) (acc : Vec Ideal Cert.Kernel6Ideal.S256x1024 .f32) => k0_pay2 (F := Ideal) v0 v1 acc (vt k) (jt k) (y k)
  s 15 (s 14 (s 13 (s 12 (s 11 (s 10 (s 9 (s 8 (s 7 (s 6 (s 5 (s 4 (s 3 (s 2 (s 1 (s 0 x)))))))))))))))

theorem sixteen (x : EReal) (f : Fin 16 → EReal) :
    x + f 0 + f 1 + f 2 + f 3 + f 4 + f 5 + f 6 + f 7 + f 8 + f 9 + f 10 + f 11 + f 12 + f 13 + f 14 + f 15 = x + ∑ k, f k := by
  simp only [Fin.sum_univ_castSucc, Fin.sum_univ_zero, zero_add, ← add_assoc]
  rfl

theorem chain_apply (v0 : Vec Ideal Cert.Kernel6Ideal.S256x2 .i32) (v1 : Vec Ideal Cert.Kernel6Ideal.S256x2 .f32) (x : Vec Ideal Cert.Kernel6Ideal.S256x1024 .f32)
    (vt jt : Fin 16 → BitVec 32) (y : Fin 16 → Vec Ideal Cert.Kernel6Ideal.S256x1024 .bf16) (r : Fin 256) (n : Fin 1024) :
    chain v0 v1 x vt jt y (ix2 r n)
      = (x (ix2 r n) : EReal) + ∑ k : Fin 16, ∑ l : Fin 256, (pick (v0 (ix2 r 0) - base (vt k) (jt k)) (v1 (ix2 r 0)) l + pick (v0 (ix2 r 1) - base (vt k) (jt k)) (v1 (ix2 r 1)) l) * y k (ix2 l n) := by
  unfold chain
  simp only [step_apply]
  exact sixteen (x (ix2 r n)) fun k => ∑ l : Fin 256, (pick (v0 (ix2 r 0) - base (vt k) (jt k)) (v1 (ix2 r 0)) l + pick (v0 (ix2 r 1) - base (vt k) (jt k)) (v1 (ix2 r 1)) l) * y k (ix2 l n)

/-- Where each row a token names lies in exactly one window, what the windows add for it is its weight times the row. -/
theorem one_window (vt jt : Fin 16 → BitVec 32) (d : BitVec 32) (h : ∃ k, Hit (vt k) (jt k) d ∧ ∀ k', Hit (vt k') (jt k') d → k' = k)
    (g v : EReal) (y : Fin 16 → EReal) (hy : ∀ k, Hit (vt k) (jt k) d → y k = v) :
    ∑ k, (if Hit (vt k) (jt k) d then g * y k else 0) = g * v := by
  obtain ⟨k, hk, hu⟩ := h
  rw [Finset.sum_eq_single k]
  · rw [if_pos hk, hy k hk]
  · intro k' _ hne; rw [if_neg fun q => hne (hu k' q)]
  · intro q; exact absurd (Finset.mem_univ k) q

/-- So the sixteen windows leave a token's entry with its two rows added, each by its weight. -/
theorem chain_rows (v0 : Vec Ideal Cert.Kernel6Ideal.S256x2 .i32) (v1 : Vec Ideal Cert.Kernel6Ideal.S256x2 .f32) (x : Vec Ideal Cert.Kernel6Ideal.S256x1024 .f32)
    (vt jt : Fin 16 → BitVec 32) (y : Fin 16 → Vec Ideal Cert.Kernel6Ideal.S256x1024 .bf16) (r : Fin 256) (n : Fin 1024) (hj : ∀ k, (jt k).toNat < 272)
    (d0 d1 : BitVec 32) (e0 : v0 (ix2 r 0) = d0) (e1 : v0 (ix2 r 1) = d1) (h0 : d0.toNat < 69632) (h1 : d1.toNat < 69632) (hne : d0 ≠ d1)
    (u0 : ∃ k, Hit (vt k) (jt k) d0 ∧ ∀ k', Hit (vt k') (jt k') d0 → k' = k) (u1 : ∃ k, Hit (vt k) (jt k) d1 ∧ ∀ k', Hit (vt k') (jt k') d1 → k' = k)
    (a0 a1 : EReal) (r0 : ∀ k, Hit (vt k) (jt k) d0 → y k (ix2 (lane d0) n) = a0) (r1 : ∀ k, Hit (vt k) (jt k) d1 → y k (ix2 (lane d1) n) = a1) :
    chain v0 v1 x vt jt y (ix2 r n) = (x (ix2 r n) : EReal) + v1 (ix2 r 0) * a0 + v1 (ix2 r 1) * a1 := by
  rw [chain_apply, e0, e1]
  simp only [window_sum _ _ d0 d1 h0 h1 (hj _) hne, Finset.sum_add_distrib]
  rw [one_window vt jt d0 u0 _ a0 (fun k => y k (ix2 (lane d0) n)) r0, one_window vt jt d1 u1 _ a1 (fun k => y k (ix2 (lane d1) n)) r1, add_assoc]

end Cert.Proof.Combine

end
-- ==== Proof.CombinePlaced.lean ====
/- What the precondition says of the tokens' rows: every window number is one of the 272, each row lies in exactly one
   used window of its tile's sixteen, and a token's two rows differ. -/
module

public import proofs.«01_k».proof.Proof.CombineRows
public import proofs.«01_k».proof.Proof.Gen.Pre_placed
public import Idealize.ShloMosaic.Lib.StableHlo.Predicate

@[expose] public section

set_option maxRecDepth 16384

noncomputable section

namespace Cert.Proof.Combine

open Idealize.ShloMosaic
open Cert.Pre_placed (S32768x2 S2048 S128x256x2x16 S128x256x2 S128x256x2x1 S128x1x1x16)

/-- The `k`-th of tile `c`'s windows, and row `r` of tile `c`. -/
def slot (c : Fin 128) (k : Fin 16) : Fin 2048 := ⟨c.val * 16 + k.val, by omega⟩
def tok (c : Fin 128) (r : Fin 256) : Fin 32768 := ⟨c.val * 256 + r.val, by omega⟩

/-- What the combination needs of the places. -/
structure Places (dest : IVec S32768x2 32) (jt vt : IVec S2048 32) : Prop where
  small : ∀ i, (jt (ix1 i)).toNat < 272
  once : ∀ (c : Fin 128) (r : Fin 256) (s : Fin 2), ∃ k : Fin 16, Hit (vt (ix1 (slot c k))) (jt (ix1 (slot c k))) (dest (ix2 (tok c r) s))
    ∧ ∀ k', Hit (vt (ix1 (slot c k'))) (jt (ix1 (slot c k'))) (dest (ix2 (tok c r) s)) → k' = k
  apart : ∀ t, dest (ix2 t 0) ≠ dest (ix2 t 1)

theorem Places.row_lt {dest : IVec S32768x2 32} {jt vt : IVec S2048 32} (h : Places dest jt vt) (c : Fin 128) (r : Fin 256) (s : Fin 2) :
    (dest (ix2 (tok c r) s)).toNat < 69632 := by
  obtain ⟨k, hk, _⟩ := h.once c r s
  have h1 := hk.2
  have h2 := h.small (slot c k)
  omega

theorem bits_of_and {a b : BitVec 1} (h : IntOp.andi a b = 1#1) : a = 1#1 ∧ b = 1#1 := by revert a b; decide
theorem and_of_bits {a b : BitVec 1} (ha : a = 1#1) (hb : b = 1#1) : IntOp.andi a b = 1#1 := by subst ha hb; rfl

/-- A number from zero up and under 272, read with its sign, is under 272 read without. -/
theorem under (x : BitVec 32) (h0 : IntOp.cmpi .sge x 0#32 = 1#1) (h1 : IntOp.cmpi .slt x 272#32 = 1#1) : x.toNat < 272 := by
  have h0 : (0#32).sle x = true := (StableHlo.Predicate.ofBool_eq_one_iff _).1 h0
  have h1 : x.slt 272#32 = true := (StableHlo.Predicate.ofBool_eq_one_iff _).1 h1
  rw [BitVec.sle_eq_decide, decide_eq_true_iff, show (0#32).toInt = 0 from rfl] at h0
  rw [BitVec.slt_eq_decide, decide_eq_true_iff, show (272#32).toInt = 272 from rfl] at h1
  rw [BitVec.toInt_eq_toNat_cond] at h0 h1
  split at h0 <;> omega

/-- The test of one row against one window is the window's being used and the row's lying in it. -/
theorem test_iff (d j v : BitVec 32) (hj : j.toNat < 272) :
    IntOp.andi (IntOp.andi (IntOp.cmpi .eq v 1#32) (IntOp.cmpi .sge d (j * 256#32))) (IntOp.cmpi .slt d (j * 256#32 + 256#32)) = 1#1 ↔ Hit v j d := by
  have ea : (j * 256#32).toNat = j.toNat * 256 := by rw [BitVec.toNat_mul, BitVec.toNat_ofNat]; omega
  have eb : (j * 256#32 + 256#32).toNat = j.toNat * 256 + 256 := by rw [BitVec.toNat_add, ea, BitVec.toNat_ofNat]; omega
  have ia : (j * 256#32).toInt = j.toNat * 256 := by rw [StableHlo.Predicate.toInt_eq_toNat_of_lt (by omega), ea]; push_cast; rfl
  have ib : (j * 256#32 + 256#32).toInt = j.toNat * 256 + 256 := by rw [StableHlo.Predicate.toInt_eq_toNat_of_lt (by omega), eb]; push_cast; rfl
  have hge : IntOp.cmpi .sge d (j * 256#32) = 1#1 ↔ (j.toNat * 256 : Int) ≤ d.toInt := by
    refine (StableHlo.Predicate.ofBool_eq_one_iff _).trans ?_
    show (j * 256#32).sle d = true ↔ _
    rw [BitVec.sle_eq_decide, decide_eq_true_iff, ia]
  have hlt : IntOp.cmpi .slt d (j * 256#32 + 256#32) = 1#1 ↔ d.toInt < (j.toNat * 256 + 256 : Int) := by
    refine (StableHlo.Predicate.ofBool_eq_one_iff _).trans ?_
    show d.slt (j * 256#32 + 256#32) = true ↔ _
    rw [BitVec.slt_eq_decide, decide_eq_true_iff, ib]
  have hd := d.isLt
  have hi := BitVec.toInt_eq_toNat_cond d
  unfold Hit
  constructor
  · intro h
    obtain ⟨h, h3⟩ := bits_of_and h
    obtain ⟨h1, h2⟩ := bits_of_and h
    have h2 := hge.1 h2
    have h3 := hlt.1 h3
    refine ⟨StableHlo.Predicate.cmpi_eq_iff.1 h1, ?_⟩
    split at hi <;> omega
  · rintro ⟨h1, h2⟩
    have e : d.toInt = d.toNat := StableHlo.Predicate.toInt_eq_toNat_of_lt (by omega)
    exact and_of_bits (and_of_bits (StableHlo.Predicate.cmpi_eq_iff.2 h1) (hge.2 (by omega))) (hlt.2 (by omega))

/-- Where the count of a row of sixteen bits is one, exactly one of them is set. -/
theorem one_set (mask : IVec S128x256x2x16 1) (hw : 1 < 32) (h : S128x256x2x16.ReducesTo [3] S128x256x2) {u : Shape} (hu : 0 < u.numel)
    (c : Fin 128) (r : Fin 256) (s : Fin 2) (e : Host.reduce IntOp.addi (extui 32 mask hw) (constantI u 32 0#32) h hu (ix3 c r s) = 1#32) :
    ∃ k : Fin 16, mask (ix4 c r s k) = 1#1 ∧ ∀ k', mask (ix4 c r s k') = 1#1 → k' = k := by
  classical
  rw [Host.reduce_eq_fold] at e
  have hdrop : ∀ i : S128x256x2x16.Idx, h.drop i = ix3 c r s ↔ i = ix4 c r s (i 3) := by
    intro i
    have v0 : (h.drop i 0 : Nat) = i 0 := Shape.ReducesTo.drop_apply_val h i 0
    have v1 : (h.drop i 1 : Nat) = i 1 := Shape.ReducesTo.drop_apply_val h i 1
    have v2 : (h.drop i 2 : Nat) = i 2 := Shape.ReducesTo.drop_apply_val h i 2
    constructor
    · intro q
      rw [q] at v0 v1 v2
      funext a; apply Fin.ext
      match a with
      | ⟨0, _⟩ => exact v0.symm
      | ⟨1, _⟩ => exact v1.symm
      | ⟨2, _⟩ => exact v2.symm
      | ⟨3, _⟩ => rfl
    · intro q
      funext a; apply Fin.ext
      match a with
      | ⟨0, _⟩ => exact v0.trans (congrArg (fun f : S128x256x2x16.Idx => (f 0).val) q)
      | ⟨1, _⟩ => exact v1.trans (congrArg (fun f : S128x256x2x16.Idx => (f 1).val) q)
      | ⟨2, _⟩ => exact v2.trans (congrArg (fun f : S128x256x2x16.Idx => (f 2).val) q)
  have hv : ∀ i, (extui 32 mask hw i).toNat = if mask i = 1#1 then 1 else 0 := fun i => StableHlo.Predicate.toNat_setWidth_bit (mask i)
  have hc : ∑ i ∈ Finset.univ.filter (fun i : S128x256x2x16.Idx => h.drop i = ix3 c r s), (extui 32 mask hw i).toNat
      = ((Finset.univ.filter (fun i : S128x256x2x16.Idx => h.drop i = ix3 c r s)).filter fun i => mask i = 1#1).card := by
    rw [Finset.card_filter]; exact Finset.sum_congr rfl fun i _ => hv i
  have hb : ((Finset.univ.filter (fun i : S128x256x2x16.Idx => h.drop i = ix3 c r s)).filter fun i => mask i = 1#1).card < 2 ^ 32 := by
    refine lt_of_le_of_lt (Finset.card_le_univ _) ?_
    rw [Shape.card_idx]
    decide
  have e' := congrArg BitVec.toNat e
  have hone : ((Finset.univ.filter (fun i : S128x256x2x16.Idx => h.drop i = ix3 c r s)).filter fun i => mask i = 1#1).card = 1 :=
    hc.symm.trans ((StableHlo.Predicate.toNat_fold_addi _ _ (by rw [hc]; exact hb)).symm.trans e')
  obtain ⟨i, hi⟩ := Finset.card_eq_one.1 hone
  have hm := hi ▸ Finset.mem_singleton_self i
  obtain ⟨hm1, hm2⟩ := Finset.mem_filter.1 (Eq.mpr (congrArg (i ∈ ·) hi) (Finset.mem_singleton_self i))
  have hm3 := (hdrop i).1 (Finset.mem_filter.1 hm1).2
  refine ⟨i 3, hm3 ▸ hm2, fun k' hk' => ?_⟩
  have hmem : ix4 c r s k' ∈ ((Finset.univ.filter (fun i : S128x256x2x16.Idx => h.drop i = ix3 c r s)).filter fun i => mask i = 1#1) :=
    Finset.mem_filter.2 ⟨Finset.mem_filter.2 ⟨Finset.mem_univ _, (hdrop _).2 rfl⟩, hk'⟩
  rw [hi] at hmem
  exact congrArg (fun f : S128x256x2x16.Idx => f 3) (Finset.mem_singleton.1 hmem)

section
open Cert.Pre_placed Cert.Pre_placed.Facts
variable [Cert.Pre_placed.Facts]

/-- Which of a tile's windows each of its rows lies in, as the precondition has it. -/
def spreadTest (row : IVec S128x256x2x1 32) (lo hi : IVec S128x1x1x16 32) (on : IVec S128x1x1x16 1) : IVec S128x256x2x16 1 :=
  andi (andi (broadcastInDim S128x256x2x16 ![0, 1, 2, 3] bcast_S128x1x1x16_S128x256x2x16_0_1_2_3 on) (cmpi .sge (broadcastInDim S128x256x2x16 ![0, 1, 2, 3] bcast_S128x256x2x1_S128x256x2x16_0_1_2_3 row) (broadcastInDim S128x256x2x16 ![0, 1, 2, 3] bcast_S128x1x1x16_S128x256x2x16_0_1_2_3 lo))) (cmpi .slt (broadcastInDim S128x256x2x16 ![0, 1, 2, 3] bcast_S128x256x2x1_S128x256x2x16_0_1_2_3 row) (broadcastInDim S128x256x2x16 ![0, 1, 2, 3] bcast_S128x1x1x16_S128x256x2x16_0_1_2_3 hi))

def lows (J : IVec S128x1x1x16 32) : IVec S128x1x1x16 32 := muli J (broadcastInDim S128x1x1x16 ![] bcast_S_S128x1x1x16 (constantI S_ 32 256#32))
def highs (J : IVec S128x1x1x16 32) : IVec S128x1x1x16 32 := addi (lows J) (broadcastInDim S128x1x1x16 ![] bcast_S_S128x1x1x16 (constantI S_ 32 256#32))
def ons (V : IVec S128x1x1x16 32) : IVec S128x1x1x16 1 := cmpi .eq V (broadcastInDim S128x1x1x16 ![] bcast_S_S128x1x1x16 (constantI S_ 32 1#32))

def inside (dest : IVec S32768x2 32) (jt vt : IVec S2048 32) : IVec S128x256x2x16 1 :=
  spreadTest (shapeCast S128x256x2x1 dest shapeCasts_S32768x2_S128x256x2x1) (lows (shapeCast S128x1x1x16 jt shapeCasts_S2048_S128x1x1x16))
    (highs (shapeCast S128x1x1x16 jt shapeCasts_S2048_S128x1x1x16)) (ons (shapeCast S128x1x1x16 vt shapeCasts_S2048_S128x1x1x16))

theorem row_at (y : IVec S128x256x2x1 32) (c : Fin 128) (r : Fin 256) (s : Fin 2) (k : Fin 16) :
    broadcastInDim S128x256x2x16 ![0, 1, 2, 3] bcast_S128x256x2x1_S128x256x2x16_0_1_2_3 y (ix4 c r s k) = y (ix4 c r s (0 : Fin 1)) := by
  refine broadcastInDim_apply _ _ _ (ix4 c r s k) (ix4 c r s (0 : Fin 1)) fun a => ?_
  match a with
  | ⟨0, _⟩ => rfl
  | ⟨1, _⟩ => rfl
  | ⟨2, _⟩ => rfl
  | ⟨3, _⟩ => rfl

theorem spread_at {α : Type} (y : S128x1x1x16.Idx → α) (c : Fin 128) (r : Fin 256) (s : Fin 2) (k : Fin 16) :
    broadcastInDim S128x256x2x16 ![0, 1, 2, 3] bcast_S128x1x1x16_S128x256x2x16_0_1_2_3 y (ix4 c r s k) = y (ix4 c (0 : Fin 1) (0 : Fin 1) k) := by
  refine broadcastInDim_apply _ _ _ (ix4 c r s k) (ix4 c (0 : Fin 1) (0 : Fin 1) k) fun a => ?_
  match a with
  | ⟨0, _⟩ => rfl
  | ⟨1, _⟩ => rfl
  | ⟨2, _⟩ => rfl
  | ⟨3, _⟩ => rfl

theorem spreadTest_at (row : IVec S128x256x2x1 32) (lo hi : IVec S128x1x1x16 32) (on : IVec S128x1x1x16 1) (c : Fin 128) (r : Fin 256) (s : Fin 2) (k : Fin 16) :
    spreadTest row lo hi on (ix4 c r s k) = IntOp.andi (IntOp.andi (on (ix4 c (0 : Fin 1) (0 : Fin 1) k))
      (IntOp.cmpi .sge (row (ix4 c r s (0 : Fin 1))) (lo (ix4 c (0 : Fin 1) (0 : Fin 1) k)))) (IntOp.cmpi .slt (row (ix4 c r s (0 : Fin 1))) (hi (ix4 c (0 : Fin 1) (0 : Fin 1) k))) := by
  rw [← spread_at on c r s k, ← spread_at lo c r s k, ← spread_at hi c r s k, ← row_at row c r s k]
  unfold spreadTest
  generalize broadcastInDim S128x256x2x16 ![0, 1, 2, 3] bcast_S128x1x1x16_S128x256x2x16_0_1_2_3 on = a1
  generalize broadcastInDim S128x256x2x16 ![0, 1, 2, 3] bcast_S128x1x1x16_S128x256x2x16_0_1_2_3 lo = a2
  generalize broadcastInDim S128x256x2x16 ![0, 1, 2, 3] bcast_S128x1x1x16_S128x256x2x16_0_1_2_3 hi = a3
  generalize broadcastInDim S128x256x2x16 ![0, 1, 2, 3] bcast_S128x256x2x1_S128x256x2x16_0_1_2_3 row = a4
  generalize ix4 c r s k = i
  rfl

theorem const_at (a : BitVec 32) (i : S128x1x1x16.Idx) : broadcastInDim S128x1x1x16 ![] bcast_S_S128x1x1x16 (constantI S_ 32 a) i = a :=
  broadcastInDim_apply _ _ _ i (fun b => b.elim0) (fun b => b.elim0)

theorem lows_at (J : IVec S128x1x1x16 32) (i : S128x1x1x16.Idx) : lows J i = J i * 256#32 := congrArg (J i * ·) (const_at 256#32 i)
theorem highs_at (J : IVec S128x1x1x16 32) (i : S128x1x1x16.Idx) : highs J i = J i * 256#32 + 256#32 := congrArg₂ (· + ·) (lows_at J i) (const_at 256#32 i)
theorem ons_at (V : IVec S128x1x1x16 32) (i : S128x1x1x16.Idx) : ons V i = IntOp.cmpi .eq (V i) 1#32 := congrArg (IntOp.cmpi .eq (V i)) (const_at 1#32 i)

theorem rows_at (dest : IVec S32768x2 32) (c : Fin 128) (r : Fin 256) (s : Fin 2) :
    shapeCast S128x256x2x1 dest shapeCasts_S32768x2_S128x256x2x1 (ix4 c r s (0 : Fin 1)) = dest (ix2 (tok c r) s) := by
  refine shapeCast_apply dest shapeCasts_S32768x2_S128x256x2x1 _ (ix2 (tok c r) s) ?_
  rewrite [Shape.rowMajor_val_two, Shape.rowMajor_val_four]
  show (c.val * 256 + r.val) * 2 + s.val = ((c.val * 256 + r.val) * 2 + s.val) * 1 + 0
  omega

theorem table_at (jt : IVec S2048 32) (c : Fin 128) (k : Fin 16) :
    shapeCast S128x1x1x16 jt shapeCasts_S2048_S128x1x1x16 (ix4 c (0 : Fin 1) (0 : Fin 1) k) = jt (ix1 (slot c k)) := by
  refine shapeCast_apply jt shapeCasts_S2048_S128x1x1x16 _ (ix1 (slot c k)) ?_
  rewrite [Shape.rowMajor_val_one, Shape.rowMajor_val_four]
  show c.val * 16 + k.val = ((c.val * 1 + 0) * 1 + 0) * 16 + k.val
  omega

theorem inside_at (dest : IVec S32768x2 32) (jt vt : IVec S2048 32) (c : Fin 128) (r : Fin 256) (s : Fin 2) (k : Fin 16) :
    inside dest jt vt (ix4 c r s k) = IntOp.andi (IntOp.andi (IntOp.cmpi .eq (vt (ix1 (slot c k))) 1#32)
      (IntOp.cmpi .sge (dest (ix2 (tok c r) s)) (jt (ix1 (slot c k)) * 256#32))) (IntOp.cmpi .slt (dest (ix2 (tok c r) s)) (jt (ix1 (slot c k)) * 256#32 + 256#32)) := by
  unfold inside
  rw [spreadTest_at, lows_at, highs_at, ons_at, rows_at, table_at, table_at]

/-- The precondition's three parts give what the combination needs. -/
theorem places {F : FTy → Type} [FloatOps F] (x : FVec F S32768x1024 .f32) (yb : FVec F S69632x1024 .bf16) (dest : IVec S32768x2 32) (gate : FVec F S32768x2 .f32) (jt vt : IVec S2048 32)
    (p : FVec F S4x8192x256 .f32) (a7 : FVec F S1024 .f32) (a8 : FVec F S1024x1024 .f32) (a9 : FVec F S256x1024 .f32) (a10 : FVec F S1024 .f32)
    (h : (fn (F := F) x yb dest gate jt vt p a7 a8 a9 a10).1 = (fun _ => 1#1) ∧ (fn (F := F) x yb dest gate jt vt p a7 a8 a9 a10).2.1 = (fun _ => 1#1)
      ∧ (fn (F := F) x yb dest gate jt vt p a7 a8 a9 a10).2.2 = (fun _ => 1#1)) : Places dest jt vt := by
  dsimp only [fn, fn_part1] at h
  obtain ⟨h1, h2, h3⟩ := h
  have small : ∀ i, (jt (ix1 i)).toNat < 272 := fun i => by
    have q : IntOp.andi (IntOp.cmpi .sge (jt (ix1 i)) 0#32) (IntOp.cmpi .slt (jt (ix1 i)) 272#32) = 1#1 := congrFun h1 (ix1 i)
    exact under _ (bits_of_and q).1 (bits_of_and q).2
  refine ⟨small, fun c r s => ?_, fun t e => ?_⟩
  · have q : IntOp.cmpi .eq (Host.reduce IntOp.addi (extui 32 (inside dest jt vt) natLt_1_32) (constantI S_ 32 0#32) reducesTo_S128x256x2x16_S128x256x2_d3 h_S_ (ix3 c r s)) 1#32 = 1#1 :=
      congrFun h2 (ix3 c r s)
    obtain ⟨k, hk, hu⟩ := one_set _ _ _ _ c r s (StableHlo.Predicate.cmpi_eq_iff.1 q)
    rw [inside_at] at hk
    exact ⟨k, (test_iff _ _ _ (small _)).1 hk, fun k' hk' => hu k' (by rw [inside_at]; exact (test_iff _ _ _ (small _)).2 hk')⟩
  · have q := congrFun h3 (ix1 t)
    have e0 : shapeCast S32768 (extractStridedSlice S32768x1 ![0, 0] dest slices_S32768x2_S32768x1_0_0) shapeCasts_S32768x1_S32768 (ix1 t) = dest (ix2 t 0) := by
      pointwise []
    have e1 : shapeCast S32768 (extractStridedSlice S32768x1 ![0, 1] dest slices_S32768x2_S32768x1_0_1) shapeCasts_S32768x1_S32768 (ix1 t) = dest (ix2 t 1) := by
      pointwise []
    have q : IntOp.cmpi .ne (shapeCast S32768 (extractStridedSlice S32768x1 ![0, 0] dest slices_S32768x2_S32768x1_0_0) shapeCasts_S32768x1_S32768 (ix1 t))
      (shapeCast S32768 (extractStridedSlice S32768x1 ![0, 1] dest slices_S32768x2_S32768x1_0_1) shapeCasts_S32768x1_S32768 (ix1 t)) = 1#1 := q
    rw [e0, e1, e] at q
    have q := (StableHlo.Predicate.ofBool_eq_one_iff _).1 q
    simp at q

end

end Cert.Proof.Combine

end
-- ==== Proof.CombineTable.lean ====
/- The tables the combination's windows read: sixteen window numbers to a tile, and which of them are used. Where every
   window number is one of the 272, every window of the experts' rows lies inside its array. -/
module

public import proofs.«01_k».proof.Proof.CombinePlaced
public import proofs.«01_k».proof.Proof.Gen.Kernel6Ideal.Frame.Runs

@[expose] public section

set_option maxRecDepth 16384

noncomputable section

namespace Cert.Kernel6Ideal.Combine

open Idealize.ShloMosaic Idealize.ShloMosaic.TcCoe
open Cert.Kernel6Ideal Cert.Kernel6Ideal.Gen
open Cert.Proof.Combine (slot)

/-- A window of 256 of the experts' rows lies inside their array and moves whole words. -/
theorem rows_in : ∀ e : Fin 272, ∃ h : (∀ a, ((![e.val, 0] : Fin 2 → Nat) a + 1) * S256x1024.size a ≤ S69632x1024.size a),
    (Rect.block (s := S69632x1024) S256x1024.size (![e.val, 0] : Fin 2 → Nat) h).WholeWords (EltTy.packing .bf16) := by
  decide +kernel

variable {F : FTy → Type} [FloatOps F]
variable (m : (ℓ : Loc nD τ sig) → Buf (Elt F) ℓ)

/-- Tile `c`'s `k`-th window number, and its mark of being used. -/
def window (c : Fin 128) (k : Fin 16) : BitVec 32 := (m (((0 : Dev nD) : Thread nD τ).loc main_arg4) : S2048.Idx → BitVec 32) (ix1 (slot c k))
def mark (c : Fin 128) (k : Fin 16) : BitVec 32 := (m (((0 : Dev nD) : Thread nD τ).loc main_arg5) : S2048.Idx → BitVec 32) (ix1 (slot c k))

theorem offset (a : Fin 128) (k : Fin 16) : (BitVec.ofNat 32 a.val * 16#32 + BitVec.ofNat 32 k.val).toNat = a.val * 16 + k.val := by
  rw [BitVec.toNat_add, BitVec.toNat_mul, BitVec.toNat_ofNat, BitVec.toNat_ofNat, BitVec.toNat_ofNat]
  omega

theorem word_window (c : Fin 128) (k : Fin 16) (y : S2048.Idx) (hy : (y 0).val = c.val * 16 + k.val) : (tbl m 0 : S2048.Idx → BitVec 32) y = window m c k := by
  refine (congrFun (V_main_arg4 m 0) y).trans ?_
  exact congrArg (m (((0 : Dev nD) : Thread nD τ).loc main_arg4) : S2048.Idx → BitVec 32) (funext fun b => by
    obtain rfl : b = 0 := Subsingleton.elim _ _
    exact Fin.ext hy)

theorem word_mark (c : Fin 128) (k : Fin 16) (y : S2048.Idx) (hy : (y 0).val = c.val * 16 + k.val) : (tbl m 1 : S2048.Idx → BitVec 32) y = mark m c k := by
  refine (congrFun (V_main_arg5 m 0) y).trans ?_
  exact congrArg (m (((0 : Dev nD) : Thread nD τ).loc main_arg5) : S2048.Idx → BitVec 32) (funext fun b => by
    obtain rfl : b = 0 := Subsingleton.elim _ _
    exact Fin.ext hy)

theorem entry_place (i : grid0.Coords) (k : Fin 16) : k0_off1 i (BitVec.ofNat 32 k.val) 0 + 1 * 0 = (i 0).val * 16 + k.val := offset (i 0) k

theorem entry (i : grid0.Coords) (k : Fin 16) (h1 : S1.numel = 1) :
    (tbl m).at 0 (Rect.unit (s := S2048) (k0_off1 i (BitVec.ofNat 32 k.val)) S1.size (k0_off1_inb i k)) h1 = window m (i 0) k :=
  word_window m (i 0) k _ (entry_place i k)

theorem transform3_eq (i : grid0.Coords) : cc0_transform_3 k0_off1_inb numel1_S1 (tbl m) i = ![(window m (i 0) 0).toNat, 0] :=
  congrArg (fun x : BitVec 32 => (![x.toNat, 0] : Fin 2 → Nat)) (entry m i 0 numel1_S1)
theorem transform4_eq (i : grid0.Coords) : cc0_transform_4 k0_off1_inb numel1_S1 (tbl m) i = ![(window m (i 0) 1).toNat, 0] :=
  congrArg (fun x : BitVec 32 => (![x.toNat, 0] : Fin 2 → Nat)) (entry m i 1 numel1_S1)
theorem transform5_eq (i : grid0.Coords) : cc0_transform_5 k0_off1_inb numel1_S1 (tbl m) i = ![(window m (i 0) 2).toNat, 0] :=
  congrArg (fun x : BitVec 32 => (![x.toNat, 0] : Fin 2 → Nat)) (entry m i 2 numel1_S1)
theorem transform6_eq (i : grid0.Coords) : cc0_transform_6 k0_off1_inb numel1_S1 (tbl m) i = ![(window m (i 0) 3).toNat, 0] :=
  congrArg (fun x : BitVec 32 => (![x.toNat, 0] : Fin 2 → Nat)) (entry m i 3 numel1_S1)
theorem transform7_eq (i : grid0.Coords) : cc0_transform_7 k0_off1_inb numel1_S1 (tbl m) i = ![(window m (i 0) 4).toNat, 0] :=
  congrArg (fun x : BitVec 32 => (![x.toNat, 0] : Fin 2 → Nat)) (entry m i 4 numel1_S1)
theorem transform8_eq (i : grid0.Coords) : cc0_transform_8 k0_off1_inb numel1_S1 (tbl m) i = ![(window m (i 0) 5).toNat, 0] :=
  congrArg (fun x : BitVec 32 => (![x.toNat, 0] : Fin 2 → Nat)) (entry m i 5 numel1_S1)
theorem transform9_eq (i : grid0.Coords) : cc0_transform_9 k0_off1_inb numel1_S1 (tbl m) i = ![(window m (i 0) 6).toNat, 0] :=
  congrArg (fun x : BitVec 32 => (![x.toNat, 0] : Fin 2 → Nat)) (entry m i 6 numel1_S1)
theorem transform10_eq (i : grid0.Coords) : cc0_transform_10 k0_off1_inb numel1_S1 (tbl m) i = ![(window m (i 0) 7).toNat, 0] :=
  congrArg (fun x : BitVec 32 => (![x.toNat, 0] : Fin 2 → Nat)) (entry m i 7 numel1_S1)
theorem transform11_eq (i : grid0.Coords) : cc0_transform_11 k0_off1_inb numel1_S1 (tbl m) i = ![(window m (i 0) 8).toNat, 0] :=
  congrArg (fun x : BitVec 32 => (![x.toNat, 0] : Fin 2 → Nat)) (entry m i 8 numel1_S1)
theorem transform12_eq (i : grid0.Coords) : cc0_transform_12 k0_off1_inb numel1_S1 (tbl m) i = ![(window m (i 0) 9).toNat, 0] :=
  congrArg (fun x : BitVec 32 => (![x.toNat, 0] : Fin 2 → Nat)) (entry m i 9 numel1_S1)
theorem transform13_eq (i : grid0.Coords) : cc0_transform_13 k0_off1_inb numel1_S1 (tbl m) i = ![(window m (i 0) 10).toNat, 0] :=
  congrArg (fun x : BitVec 32 => (![x.toNat, 0] : Fin 2 → Nat)) (entry m i 10 numel1_S1)
theorem transform14_eq (i : grid0.Coords) : cc0_transform_14 k0_off1_inb numel1_S1 (tbl m) i = ![(window m (i 0) 11).toNat, 0] :=
  congrArg (fun x : BitVec 32 => (![x.toNat, 0] : Fin 2 → Nat)) (entry m i 11 numel1_S1)
theorem transform15_eq (i : grid0.Coords) : cc0_transform_15 k0_off1_inb numel1_S1 (tbl m) i = ![(window m (i 0) 12).toNat, 0] :=
  congrArg (fun x : BitVec 32 => (![x.toNat, 0] : Fin 2 → Nat)) (entry m i 12 numel1_S1)
theorem transform16_eq (i : grid0.Coords) : cc0_transform_16 k0_off1_inb numel1_S1 (tbl m) i = ![(window m (i 0) 13).toNat, 0] :=
  congrArg (fun x : BitVec 32 => (![x.toNat, 0] : Fin 2 → Nat)) (entry m i 13 numel1_S1)
theorem transform17_eq (i : grid0.Coords) : cc0_transform_17 k0_off1_inb numel1_S1 (tbl m) i = ![(window m (i 0) 14).toNat, 0] :=
  congrArg (fun x : BitVec 32 => (![x.toNat, 0] : Fin 2 → Nat)) (entry m i 14 numel1_S1)
theorem transform18_eq (i : grid0.Coords) : cc0_transform_18 k0_off1_inb numel1_S1 (tbl m) i = ![(window m (i 0) 15).toNat, 0] :=
  congrArg (fun x : BitVec 32 => (![x.toNat, 0] : Fin 2 → Nat)) (entry m i 15 numel1_S1)

/-- The table's side condition of the pipeline, where every window number is one of the 272. -/
theorem ok (h : ∀ c k, (window m c k).toNat < 272) : Ok m := by
  have hin : ∀ (ix : Fin 2 → Nat) (e : Fin 272), ix = ![e.val, 0] →
      ∃ h : (∀ a, (ix a + 1) * S256x1024.size a ≤ S69632x1024.size a), EltTy.bits .bf16 = 32 ∨ (Rect.block (s := S69632x1024) S256x1024.size ix h).WholeWords (EltTy.packing .bf16) := by
    rintro ix e rfl; exact (rows_in e).imp fun _ h => .inr h
  exact ⟨fun i => hin _ ⟨_, h (i 0) 0⟩ (transform3_eq m i), fun i => hin _ ⟨_, h (i 0) 1⟩ (transform4_eq m i), fun i => hin _ ⟨_, h (i 0) 2⟩ (transform5_eq m i), fun i => hin _ ⟨_, h (i 0) 3⟩ (transform6_eq m i), fun i => hin _ ⟨_, h (i 0) 4⟩ (transform7_eq m i), fun i => hin _ ⟨_, h (i 0) 5⟩ (transform8_eq m i), fun i => hin _ ⟨_, h (i 0) 6⟩ (transform9_eq m i), fun i => hin _ ⟨_, h (i 0) 7⟩ (transform10_eq m i), fun i => hin _ ⟨_, h (i 0) 8⟩ (transform11_eq m i), fun i => hin _ ⟨_, h (i 0) 9⟩ (transform12_eq m i), fun i => hin _ ⟨_, h (i 0) 10⟩ (transform13_eq m i), fun i => hin _ ⟨_, h (i 0) 11⟩ (transform14_eq m i), fun i => hin _ ⟨_, h (i 0) 12⟩ (transform15_eq m i), fun i => hin _ ⟨_, h (i 0) 13⟩ (transform16_eq m i), fun i => hin _ ⟨_, h (i 0) 14⟩ (transform17_eq m i), fun i => hin _ ⟨_, h (i 0) 15⟩ (transform18_eq m i)⟩

end Cert.Kernel6Ideal.Combine

end
-- ==== Proof.CombineRun.lean ====
/- The whole-body run of the combination's kernel: the body, on whole staging memrefs, leaves its inputs as they were and
   its output with the pieces it stores. The generated run of this body takes more steps than it is given; here the inputs'
   contents are put in first, before the body is opened. -/
module

public import proofs.«01_k».proof.Proof.Gen.Kernel6Ideal.Frame.Runs

@[expose] public section

set_option maxRecDepth 16384

noncomputable section

namespace Cert.Kernel6Ideal.Combine

open Idealize.ShloMosaic Idealize.ShloMosaic.TcCoe Idealize.ShloMosaic.Tactic
open Cert.Kernel6Ideal Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body stores in its output's memref, as pieces, with the proof that it runs to the continuation which holds
    the inputs as they were and the output with those pieces written. -/
noncomputable def kernelRun0_A (c : Dev nD) (i : grid0.Coords) (arg3 : Memref sig .tc .vmem S256x1024 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x256 .f32) (harg22 : arg22.IsWhole) (arg23 : Memref sig .tc .vmem S1x1024 .f32) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x2 .i32) (x2 : Vec F S256x2 .f32) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S256x1024 .bf16) (x14 : Vec F S256x1024 .bf16) (x15 : Vec F S256x1024 .bf16) (x16 : Vec F S256x1024 .bf16) (x17 : Vec F S256x1024 .bf16) (x18 : Vec F S256x1024 .bf16) (x19 : Vec F S256x256 .f32) (x20 : Vec F S1x1024 .f32) (x21 : Vec F S1024x1024 .bf16) (x22 : Vec F S256x1024 .bf16) (x23 : Vec F S1x1024 .f32) (xt0 : TbBuf0 (F := F) c tbM0_0) (xt1 : TbBuf0 (F := F) c tbM0_1) :
    { L24 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ (∃ d, owns (c : Thread nD τ) arg27 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ (∃ f, arg27.view.loc (c : Thread nD τ) ↦[arg27.view.set]{fullShare} arg27.view.writes (Elt F) f L24) ∗ tbPt0 c tbM0_0 xt0 ∗ tbPt0 c tbM0_1 xt1) -∗ K ⟨⟩))
          ⊢ wp frame (wpE (defs₀ (F := F)) Variants.none c none) E (cc0_moe_combine i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23
    simp only [cc0_moe_combine_eq_skeleton]; unfold cc0_moe_combine_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]; · iexists _; iexact H24
    isplitl [HT0]; · iexact HT0
    iexact HT1

end Cert.Kernel6Ideal.Combine

end
-- ==== Proof.CombineFrame.lean ====
/- The combination's launch: its body at any grid point, from the run (`CombineRun.lean`), the pipeline's run from the
   launch, and its frame, for every contents of the tables under the pipeline's side condition of them. The set-up follows
   that of the generated frames. -/
module

public import proofs.«01_k».proof.Proof.CombineRun
public import Idealize.ShloMosaic.Lib.Claim

@[expose] public section

set_option maxRecDepth 16384

noncomputable section

namespace Cert.Kernel6Ideal.Combine

open Idealize.ShloMosaic Idealize.ShloMosaic.TcCoe Idealize.ShloMosaic.Tactic
open Cert.Kernel6Ideal Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's one store covers the output's block. -/
theorem cover0_A_24 (c : Dev nD) (i : grid0.Coords) (arg3 : Memref sig .tc .vmem S256x1024 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x256 .f32) (harg22 : arg22.IsWhole) (arg23 : Memref sig .tc .vmem S1x1024 .f32) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x2 .i32) (x2 : Vec F S256x2 .f32) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S256x1024 .bf16) (x14 : Vec F S256x1024 .bf16) (x15 : Vec F S256x1024 .bf16) (x16 : Vec F S256x1024 .bf16) (x17 : Vec F S256x1024 .bf16) (x18 : Vec F S256x1024 .bf16) (x19 : Vec F S256x256 .f32) (x20 : Vec F S1x1024 .f32) (x21 : Vec F S1024x1024 .bf16) (x22 : Vec F S256x1024 .bf16) (x23 : Vec F S1x1024 .f32) (xt0 : TbBuf0 (F := F) c tbM0_0) (xt1 : TbBuf0 (F := F) c tbM0_1) (y : S256x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 xt1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 xt1).1 S256x1024.size (by sl_kernel_rfl) y

/-- What the run leaves in output 24's staging buffer: its pieces read back over junk. -/
def out0_A_24 (c : Dev nD) (i : grid0.Coords) (arg3 : Memref sig .tc .vmem S256x1024 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x256 .f32) (harg22 : arg22.IsWhole) (arg23 : Memref sig .tc .vmem S1x1024 .f32) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x2 .i32) (x2 : Vec F S256x2 .f32) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S256x1024 .bf16) (x14 : Vec F S256x1024 .bf16) (x15 : Vec F S256x1024 .bf16) (x16 : Vec F S256x1024 .bf16) (x17 : Vec F S256x1024 .bf16) (x18 : Vec F S256x1024 .bf16) (x19 : Vec F S256x256 .f32) (x20 : Vec F S1x1024 .f32) (x21 : Vec F S1024x1024 .bf16) (x22 : Vec F S256x1024 .bf16) (x23 : Vec F S1x1024 .f32) (xt0 : TbBuf0 (F := F) c tbM0_0) (xt1 : TbBuf0 (F := F) c tbM0_1) : Vec F S256x1024 .f32 :=
  VO0_24.read (Elt F) (VO0_24.writes (Elt F) VO0_24.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 xt1).1)

/-! ## What the outputs hold after each point -/

/-- What the outputs' staging buffers hold after the body at point `t`: the run's contents at
    the point's memrefs and input blocks. -/
def outsAt0 (hO : Ok m) (c : Dev nD) (t : Fin (cfgM m hO).N) : Vec F S256x1024 .f32 :=
  out0_A_24 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0) (tbl m 1)

/-! ## The pipeline's proof data -/

/-- The proof data of the pipeline: each input's buffer holds its block after every point, the output's `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => (outsAt0 m hO c t)
    | ⟨_ + 25, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are those the region finds. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t))

set_option maxHeartbeats 12000000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m hO 0 c).Φ t.castSucc = iprop(Pipeline.ΦA spec0 c ∗ Pipeline.ΦT pre0 (tbl m) c) from rfl, PhiT0_eq]
  unfold outsAt0
  unfold out0_A_24
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0) (tbl m 1)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HT0]; · iexact HT0
  isplitl [HT1]; · iexact HT1
  iintro ⟨H0, H1, H2, H3, H4, H5, H6, H7, H8, H9, H10, H11, H12, H13, H14, H15, H16, H17, H18, H19, H20, H21, H22, H23, ⟨%e24, H24⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- The launch: what the run leaves, with every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (dats m hO) (A_eq m hO) (run_main m ρ hO)

/-- The kernel terminates, leaves its arguments and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.Kernel6Ideal.Combine

end
-- ==== Proof.CombineTail.lean ====
/- The end of the combination: the embedding gate and the last norm over a tile's sums, row by row, are the reference's.
   Stated for any placement `ρ` of the tile's rows, at `Ideal`. -/
module

public import proofs.«01_k».proof.Proof.Gen.Kernel6Ideal.Skeleton
public import proofs.«01_k».proof.Proof.Gen.Reference6Ideal.Read
public import Idealize.ShloMosaic.Lib.Pointwise

@[expose] public section

set_option maxRecDepth 16384

noncomputable section

namespace Cert.Kernel6Ideal.Combine

open Idealize.ShloMosaic
open Cert.Kernel6Ideal Cert.Kernel6Ideal.Gen

variable {F : FTy → Type} [FloatOps F]

/-- One plus the exponential of the negated gate, over the tile's sums. -/
def den (acc : FVec F S256x1024 .f32) (gb : Vec F S1x1024 .f32) (wg : Vec F S1024x1024 .bf16) : FVec F S256x1024 .f32 :=
  have v549 : FVec F S1x1024 .f32 := shapeCast S1x1024 gb shapeCasts_S1x1024_S1x1024
  have v550 : FVec F S256x1024 .f32 := mulf acc acc
  have v551 : FVec F S256 .f32 := multiReduction .add [1] S256 v550 0x00000000#32 reduces_S256x1024_S256 (.inl rfl) rfl
  have v552 : FVec F S256x1 .f32 := shapeCast S256x1 v551 shapeCasts_S256_S256x1
  have cst_180 : F .f32 := Scalar.ofBits .f32 0x44800000#32
  have v553 : FVec F S256x1 .f32 := broadcast S256x1 cst_180
  have v554 : FVec F S256x1 .f32 := divf v552 v553
  have cst_181 : F .f32 := Scalar.ofBits .f32 0x358637BD#32
  have v555 : FVec F S256x1 .f32 := broadcast S256x1 cst_181
  have v556 : FVec F S256x1 .f32 := addf v554 v555
  have v557 : FVec F S256x1 .f32 := rsqrt v556
  have v558 : FVec F S256x1024 .f32 := broadcastTo S256x1024 v557 broadcasts_S256x1_S256x1024
  have v559 : FVec F S256x1024 .f32 := mulf acc v558
  have v560 : FVec F S256x1024 .f32 := broadcastTo S256x1024 v549 broadcasts_S1x1024_S256x1024
  have v561 : FVec F S256x1024 .f32 := mulf v559 v560
  have v562 : FVec F S256x1024 .bf16 := truncf .bf16 v561 bitsLt_bf16_f32
  have v564 : FVec F S1024x1024 .bf16 := shapeCast S1024x1024 wg shapeCasts_S1024x1024_S1024x1024
  have cst_184 : FVec F S256x1024 .f32 := constant S256x1024 .f32 0x00000000#32
  have v565 : FVec F S256x1024 .f32 := matmul dot_S256x1024_S1024x1024_S256x1024_1_0_0_1_n_n none v562 v564 cst_184
  have cst_185 : F .f32 := Scalar.ofBits .f32 0x00000000#32
  have v566 : FVec F S256x1024 .f32 := broadcast S256x1024 cst_185
  have v567 : FVec F S256x1024 .f32 := subf v566 v565
  have v568 : FVec F S256x1024 .f32 := exp v567
  have cst_186 : F .f32 := Scalar.ofBits .f32 0x3F800000#32
  have v569 : FVec F S256x1024 .f32 := broadcast S256x1024 cst_186
  have v570 : FVec F S256x1024 .f32 := addf v569 v568
  v570

end Cert.Kernel6Ideal.Combine

namespace Cert.Proof.Combine

open Idealize.ShloMosaic
open Cert.Kernel6Ideal.Gen (k0_pay1)
open Cert.Kernel6Ideal.Combine (den)
open Cert.Reference6Ideal.Read

theorem zero_sub_eq (a : EReal) : (0 : EReal) - a = -a := by rw [sub_eq_add_neg, zero_add]

variable (ρ : Fin 256 → Fin 32768)
variable (x0 : (⟨Cert.Reference6Ideal.S32768x1024, .f32⟩ : BufTy).Contents (Elt Ideal)) (x1 : (⟨Cert.Reference6Ideal.S69632x1024, .bf16⟩ : BufTy).Contents (Elt Ideal))
  (x2 : (⟨Cert.Reference6Ideal.S32768x2, .i32⟩ : BufTy).Contents (Elt Ideal)) (x3 : (⟨Cert.Reference6Ideal.S32768x2, .f32⟩ : BufTy).Contents (Elt Ideal))
  (x7 : (⟨Cert.Reference6Ideal.S1024, .f32⟩ : BufTy).Contents (Elt Ideal)) (x8 : (⟨Cert.Reference6Ideal.S1024x1024, .f32⟩ : BufTy).Contents (Elt Ideal))

/-- One plus the exponential of the negated gate. -/
theorem den_rows (acc : FVec Ideal Cert.Kernel6Ideal.S256x1024 .f32) (gb : Vec Ideal Cert.Kernel6Ideal.S1x1024 .f32) (wg : Vec Ideal Cert.Kernel6Ideal.S1024x1024 .bf16)
    (ha : ∀ r k, acc (ix2 r k) = val_main_v26 (F := Ideal) x0 x1 x2 x3 (ix2 (ρ r) k)) (hg : ∀ k, gb (ix2 0 k) = x7 (ix1 k)) (hwg : ∀ a b, wg (ix2 a b) = x8 (ix2 a b))
    (r : Fin 256) (k : Fin 1024) :
    den (F := Ideal) acc gb wg (ix2 r k) = val_main_v44 (F := Ideal) x0 x1 x2 x3 x7 x8 (ix2 (ρ r) k) := by
  pointwise [den, val_main_v44, val_main_v43, val_main_cst_5, val_main_v42, val_main_v41, val_main_v40, val_main_v39, val_main_v38, val_main_v37, val_main_v36, val_main_v35, val_main_v34, val_main_v33, val_main_v32, val_main_cst_4, val_main_v31, val_main_v30, val_main_cst_3, val_main_v29, val_main_v28, val_main_cst, val_main_v27]
  simp only [ha, hg, hwg, zero_sub_eq]

variable (x6 : (⟨Cert.Reference6Ideal.S4x8192x256, .f32⟩ : BufTy).Contents (Elt Ideal)) (x9 : (⟨Cert.Reference6Ideal.S256x1024, .f32⟩ : BufTy).Contents (Elt Ideal))
  (x10 : (⟨Cert.Reference6Ideal.S1024, .f32⟩ : BufTy).Contents (Elt Ideal))

/-- The tile's result from its sums. -/
theorem end_rows (acc d : FVec Ideal Cert.Kernel6Ideal.S256x1024 .f32) (p : Vec Ideal Cert.Kernel6Ideal.S256x256 .f32) (wp : Vec Ideal Cert.Kernel6Ideal.S256x1024 .bf16) (fg : Vec Ideal Cert.Kernel6Ideal.S1x1024 .f32)
    (ha : ∀ r k, acc (ix2 r k) = val_main_v26 (F := Ideal) x0 x1 x2 x3 (ix2 (ρ r) k)) (hd : ∀ r k, d (ix2 r k) = val_main_v44 (F := Ideal) x0 x1 x2 x3 x7 x8 (ix2 (ρ r) k))
    (hp : ∀ r k, p (ix2 r k) = val_main_v47 (F := Ideal) x6 (ix2 (ρ r) k)) (hwp : ∀ a b, wp (ix2 a b) = x9 (ix2 a b)) (hf : ∀ k, fg (ix2 0 k) = x10 (ix1 k))
    (r : Fin 256) (k : Fin 1024) :
    k0_pay1 (F := Ideal) acc d p wp fg (ix2 r k) = val_main_v63 (F := Ideal) x0 x1 x2 x3 x6 x7 x8 x9 x10 (ix2 (ρ r) k) := by
  pointwise [k0_pay1, val_main_v63, val_main_v62, val_main_v61, val_main_v60, val_main_v59, val_main_v58, val_main_v57, val_main_v56, val_main_cst_9, val_main_v55, val_main_v54, val_main_cst_8, val_main_v53, val_main_v52, val_main_cst_7, val_main_v51, val_main_v50, val_main_v49, val_main_v48, val_main_v46, val_main_v45, val_main_cst_6]
  simp only [ha, hd, hp, hwp, hf]

end Cert.Proof.Combine

end
-- ==== Proof.CombineBody.lean ====
/- What a grid point of the combination's kernel leaves in its output block, as a term of what it reads: sixteen windows'
   steps, one after another, and then the embedding gate and the last norm. -/
module

public import proofs.«01_k».proof.Proof.CombineFrame
public import proofs.«01_k».proof.Proof.CombineTail
public import Idealize.ShloMosaic.Lib.Pipeline.Value
public import Idealize.ShloMosaic.Lib.VecWindow

@[expose] public section

set_option maxRecDepth 16384

noncomputable section

namespace Cert.Kernel6Ideal.Combine

open Idealize.ShloMosaic Idealize.ShloMosaic.TcCoe Idealize.ShloMosaic.Tactic Idealize.SL.Sem
open Cert.Kernel6Ideal Cert.Kernel6Ideal.Gen

theorem hz : (![0, 0] : Fin 2 → Nat) = fun _ => 0 := funext fun a => by fin_cases a <;> rfl

variable {F : FTy → Type} [FloatOps F]

/-- The `k`-th word of a point's sixteen, of either table. -/
abbrev word0 (c : Dev nD) (i : grid0.Coords) (xt0 : TbBuf0 (F := F) c tbM0_0) (k : Fin 16) : BitVec 32 :=
  tbM0_0.view.readAt (Elt F) (Rect.unit (s := S2048) (k0_off1 i (BitVec.ofNat 32 k.val)) S1.size (k0_off1_inb i k)).toLoadRect xt0 (Shape.Idx.first (numel1_S1.symm ▸ Nat.one_pos))
abbrev word1 (c : Dev nD) (i : grid0.Coords) (xt1 : TbBuf0 (F := F) c tbM0_1) (k : Fin 16) : BitVec 32 :=
  tbM0_1.view.readAt (Elt F) (Rect.unit (s := S2048) (k0_off1 i (BitVec.ofNat 32 k.val)) S1.size (k0_off1_inb i k)).toLoadRect xt1 (Shape.Idx.first (numel1_S1.symm ▸ Nat.one_pos))

variable (c : Dev nD) (i : grid0.Coords) (arg3 : Memref sig .tc .vmem S256x1024 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x256 .f32) (harg22 : arg22.IsWhole) (arg23 : Memref sig .tc .vmem S1x1024 .f32) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1x1024 .f32) (harg26 : arg26.IsWhole) (arg27 : Memref sig .tc .vmem S256x1024 .f32) (harg27 : arg27.IsWhole)
  (x0 : Vec F S256x1024 .f32) (x1 : Vec F S256x2 .i32) (x2 : Vec F S256x2 .f32) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S256x1024 .bf16) (x14 : Vec F S256x1024 .bf16) (x15 : Vec F S256x1024 .bf16) (x16 : Vec F S256x1024 .bf16) (x17 : Vec F S256x1024 .bf16) (x18 : Vec F S256x1024 .bf16) (x19 : Vec F S256x256 .f32) (x20 : Vec F S1x1024 .f32) (x21 : Vec F S1024x1024 .bf16) (x22 : Vec F S256x1024 .bf16) (x23 : Vec F S1x1024 .f32) (xt0 : TbBuf0 (F := F) c tbM0_0) (xt1 : TbBuf0 (F := F) c tbM0_1)

/-- The sixteen windows' steps. -/
def sums : FVec F S256x1024 .f32 :=
  (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 (k0_pay2 x1 x2 x0 (word1 c i xt1 0) (word0 c i xt0 0) x3) (word1 c i xt1 1) (word0 c i xt0 1) x4) (word1 c i xt1 2) (word0 c i xt0 2) x5) (word1 c i xt1 3) (word0 c i xt0 3) x6) (word1 c i xt1 4) (word0 c i xt0 4) x7) (word1 c i xt1 5) (word0 c i xt0 5) x8) (word1 c i xt1 6) (word0 c i xt0 6) x9) (word1 c i xt1 7) (word0 c i xt0 7) x10) (word1 c i xt1 8) (word0 c i xt0 8) x11) (word1 c i xt1 9) (word0 c i xt0 9) x12) (word1 c i xt1 10) (word0 c i xt0 10) x13) (word1 c i xt1 11) (word0 c i xt0 11) x14) (word1 c i xt1 12) (word0 c i xt0 12) x15) (word1 c i xt1 13) (word0 c i xt0 13) x16) (word1 c i xt1 14) (word0 c i xt0 14) x17) (word1 c i xt1 15) (word0 c i xt0 15) x18)

theorem out_A :
    out0_A_24 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 xt1
      = k0_pay1 (sums c i x0 x1 x2 x3 x4 x5 x6 x7 x8 x9 x10 x11 x12 x13 x14 x15 x16 x17 x18 xt0 xt1) (den (sums c i x0 x1 x2 x3 x4 x5 x6 x7 x8 x9 x10 x11 x12 x13 x14 x15 x16 x17 x18 xt0 xt1) x20 x21) x19 x22 x23 := by
  unfold out0_A_24
  rw [View.read_writes_eq_canon _ _ _ (cover0_A_24 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 xt1)]
  unfold kernelRun0_A
  dsimp only
  sl_unfold_words
  simp only [View.canon_unit_zero (S := S256x1024) hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S256x1024) hz, View.ld_unit_zero (S := S256x2) hz, View.ld_unit_zero (S := S256x256) hz, View.ld_unit_zero (S := S1x1024) hz, View.ld_unit_zero (S := S1024x1024) hz]
  rfl

end Cert.Kernel6Ideal.Combine

end
-- ==== Proof.CombineGather.lean ====
/- The reference's sum of a token's stream and its two weighted rows, entry by entry, at `Ideal`. -/
module

public import proofs.«01_k».proof.Proof.Gen.Reference6Ideal.Read
public import Idealize.ShloMosaic.Lib.Pointwise
public import Idealize.ShloMosaic.Lib.StableHlo.Predicate

@[expose] public section

set_option maxRecDepth 16384

noncomputable section

namespace Cert.Proof.Combine

open Idealize.ShloMosaic
open Cert.Reference6Ideal.Read

/-- `y[idx]` over the rows of a matrix: where `idx` holds `b` for token `t`, entry `(t, n)` is `y`'s entry `(b, n)`. -/
theorem gather_rows {α : Type} {M T N : Nat} (hM : M < 2 ^ 31) (d : GatherDims ⟨2, ![M, N]⟩ ⟨2, ![T, 1]⟩ ⟨2, ![T, N]⟩) (hoff : d.offsetDims = [1])
    (hcoll : d.collapsedSliceDims = [0]) (hob : d.operandBatchingDims = []) (hsim : d.startIndexMap = [0]) (hivd : d.indexVectorDim = 1)
    (y : (⟨2, ![M, N]⟩ : Shape).Idx → α) (idx : IVec ⟨2, ![T, 1]⟩ 32) (t : Fin T) (n : Fin N) (b : Fin M)
    (hb : idx (ix2 t (0 : Fin 1)) = BitVec.ofNat 32 b.val) :
    Host.gather d y idx (ix2 t n) = y (ix2 b n) := by
  have hs := d.slice_collapsed
  obtain ⟨off, coll, ob, sb, sim, ivd, ss, wf⟩ := d
  dsimp only at hoff hcoll hob hsim hivd hs
  subst hoff hcoll hob hsim hivd
  have hs0 : ss 0 = 1 := hs 0 (List.mem_singleton.2 rfl)
  unfold Host.gather
  refine congrArg y (funext fun a => Fin.ext ?_)
  match a with
  | ⟨0, _⟩ =>
    show GatherDims.start _ (ix2 t n) idx 0 + 0 + 0 = b.val
    unfold GatherDims.start
    rw [dif_pos (List.mem_singleton.2 rfl)]
    have hi : ∀ q h, GatherDims.siIdx (⟨[1], [0], [], sb, [0], 1, ss, wf⟩ : GatherDims ⟨2, ![M, N]⟩ ⟨2, ![T, 1]⟩ ⟨2, ![T, N]⟩) (ix2 t n) ⟨q, h⟩ = ix2 t (0 : Fin 1) := by
      intro q h
      funext b'; apply Fin.ext
      match b' with
      | ⟨0, _⟩ => rfl
      | ⟨1, _⟩ => show q = 0; exact Nat.lt_one_iff.1 h
    have hbl := b.isLt
    rw [hi, hb, StableHlo.Predicate.toInt_ofNat_small _ (by omega)]
    show min ((b.val : Int)).toNat (M - ss 0) + 0 + 0 = b.val
    rw [hs0]; omega
  | ⟨1, _⟩ => show 0 + 0 + n.val = n.val; omega

/-- A row number that is not negative is taken as it is. -/
theorem not_wrapped (d : BitVec 32) (h : d.toNat < 69632) : Scalar.select (IntOp.cmpi .slt d 0#32) (IntOp.addi d 69632#32) d = d := by
  have e : IntOp.cmpi .slt d 0#32 = 0#1 := by
    rcases BitVec.eq_zero_or_eq_one (IntOp.cmpi .slt d 0#32) with q | q
    · exact q
    · exact absurd ((StableHlo.Predicate.slt_iff_toNat (by omega) (by decide)).1 q) (Nat.not_lt_zero _)
  rw [e]; rfl

variable (x0 : (⟨Cert.Reference6Ideal.S32768x1024, .f32⟩ : BufTy).Contents (Elt Ideal)) (x1 : (⟨Cert.Reference6Ideal.S69632x1024, .bf16⟩ : BufTy).Contents (Elt Ideal))
  (x2 : (⟨Cert.Reference6Ideal.S32768x2, .i32⟩ : BufTy).Contents (Elt Ideal)) (x3 : (⟨Cert.Reference6Ideal.S32768x2, .f32⟩ : BufTy).Contents (Elt Ideal))

theorem first_index (t : Fin 32768) (h : (x2 (ix2 t 0) : BitVec 32).toNat < 69632) : val_main_v9 (F := Ideal) x2 (ix2 t (0 : Fin 1)) = x2 (ix2 t 0) := by
  have e : val_main_v3 (F := Ideal) x2 (ix1 t) = x2 (ix2 t 0) := by pointwise [val_main_v3, val_main_v2]
  have q : val_main_v9 (F := Ideal) x2 (ix2 t (0 : Fin 1)) = val_main_v8 (F := Ideal) x2 (ix1 t) := by
    unfold val_main_v9
    generalize val_main_v8 (F := Ideal) x2 = y
    pointwise []
  rw [q, val_main_v8_apply, val_main_v5_apply, val_main_v7_apply, val_main_v4_apply, val_main_v6_apply, val_main_c_apply, val_main_c_0_apply, e]
  exact not_wrapped _ h

theorem second_index (t : Fin 32768) (h : (x2 (ix2 t 1) : BitVec 32).toNat < 69632) : val_main_v22 (F := Ideal) x2 (ix2 t (0 : Fin 1)) = x2 (ix2 t 1) := by
  have e : val_main_v16 (F := Ideal) x2 (ix1 t) = x2 (ix2 t 1) := by pointwise [val_main_v16, val_main_v15]
  have q : val_main_v22 (F := Ideal) x2 (ix2 t (0 : Fin 1)) = val_main_v21 (F := Ideal) x2 (ix1 t) := by
    unfold val_main_v22
    generalize val_main_v21 (F := Ideal) x2 = y
    pointwise []
  rw [q, val_main_v21_apply, val_main_v18_apply, val_main_v20_apply, val_main_v17_apply, val_main_v19_apply, val_main_c_1_apply, val_main_c_2_apply, e]
  exact not_wrapped _ h

theorem word_of (d : BitVec 32) (b : Fin 69632) (h : d.toNat = b.val) : d = BitVec.ofNat 32 b.val := by
  rw [← h]; exact (BitVec.ofNat_toNat 32 d |>.trans (BitVec.setWidth_eq _)).symm

/-- A token's stream and its two weighted rows. -/
theorem stream_rows (t : Fin 32768) (n : Fin 1024) (b0 b1 : Fin 69632) (h0 : (x2 (ix2 t 0) : BitVec 32).toNat = b0.val) (h1 : (x2 (ix2 t 1) : BitVec 32).toNat = b1.val) :
    val_main_v26 (F := Ideal) x0 x1 x2 x3 (ix2 t n)
      = (x0 (ix2 t n) : EReal) + (x3 (ix2 t 0) : EReal) * (x1 (ix2 b0 n) : EReal) + (x3 (ix2 t 1) : EReal) * (x1 (ix2 b1 n) : EReal) := by
  have r0 : val_main_v10 (F := Ideal) x1 x2 (ix2 t n) = (x1 (ix2 b0 n) : EReal) :=
    gather_rows (by decide) Cert.Reference6Ideal.gather_S69632x1024_S32768x1_S32768x1024_1_0_n_n_0_1_11024 rfl rfl rfl rfl rfl (val_main_v0 (F := Ideal) x1) (val_main_v9 (F := Ideal) x2) t n b0
      ((first_index x2 t (by omega)).trans (word_of _ b0 h0))
  have r1 : val_main_v23 (F := Ideal) x1 x2 (ix2 t n) = (x1 (ix2 b1 n) : EReal) :=
    gather_rows (by decide) Cert.Reference6Ideal.gather_S69632x1024_S32768x1_S32768x1024_1_0_n_n_0_1_11024 rfl rfl rfl rfl rfl (val_main_v0 (F := Ideal) x1) (val_main_v22 (F := Ideal) x2) t n b1
      ((second_index x2 t (by omega)).trans (word_of _ b1 h1))
  have g0 : val_main_v11 (F := Ideal) x3 (ix2 t n) = (x3 (ix2 t 0) : EReal) := by pointwise [val_main_v11, val_main_v1]
  have g1 : val_main_v24 (F := Ideal) x3 (ix2 t n) = (x3 (ix2 t 1) : EReal) := by pointwise [val_main_v24, val_main_v14]
  rw [val_main_v26_apply, val_main_v25_apply, val_main_v13_apply, val_main_v12_apply, r0, r1, g0, g1]
  rfl

end Cert.Proof.Combine

end
-- ==== Proof.CombineValue.lean ====
/- What the combination's kernel computes: its array after the run, tile by tile, is the reference's result, where the
   tokens' rows are placed as the precondition says. -/
module

public import proofs.«01_k».proof.Proof.CombineTable
public import proofs.«01_k».proof.Proof.CombineBody
public import proofs.«01_k».proof.Proof.CombineGather

@[expose] public section

set_option maxRecDepth 16384

noncomputable section

namespace Cert.Kernel6Ideal.Combine

open Idealize.ShloMosaic Idealize.ShloMosaic.TcCoe Idealize.ShloMosaic.Tactic Idealize.SL.Sem
open Idealize.ShloMosaic.Pipeline (Dat Window)
open Cert.Kernel6Ideal Cert.Kernel6Ideal.Gen
open Cert.Proof.Combine (slot tok Hit lane Places)

theorem coord_eq : ∀ t : Fin grid0.N, (grid0.coords t 0).val = t.val := by decide +kernel

theorem index_row : ∀ (t : Fin grid0.N) (a : Fin 2), cc0_transform_0 (grid0.coords t) a = (![t.val, 0] : Fin 2 → Nat) a
    ∧ cc0_transform_1 (grid0.coords t) a = (![t.val, 0] : Fin 2 → Nat) a ∧ cc0_transform_2 (grid0.coords t) a = (![t.val, 0] : Fin 2 → Nat) a
    ∧ cc0_transform_19 (grid0.coords t) a = (![t.val, 0] : Fin 2 → Nat) a ∧ cc0_transform_24 (grid0.coords t) a = (![t.val, 0] : Fin 2 → Nat) a := by
  decide +kernel

variable (m : (ℓ : Loc nD τ sig) → Buf (Elt Ideal) ℓ) (hO : Ok m)

/-- What the host hands the region: the arguments, flattened to rows or given a leading axis, at the ideal values. -/
theorem V_p (c : Dev nD) : (V m c main_v0 : S32768x256.Idx → EReal) = Cert.Reference6Ideal.Read.val_main_v47 (F := Ideal) (m ((c : Thread nD τ).loc main_arg6)) := by
  dsimp only [V, hostOps0]
  after_results
  rfl
theorem V_gate (c : Dev nD) (k : Fin 1024) : (V m c main_v1 : S1x1024.Idx → EReal) (ix2 0 k) = (m ((c : Thread nD τ).loc main_arg7) : S1024.Idx → EReal) (ix1 k) := by
  dsimp only [V, hostOps0]
  after_results
  pointwise []
theorem V_wg (c : Dev nD) : (V m c main_v2 : S1024x1024.Idx → EReal) = m ((c : Thread nD τ).loc main_arg8) := by
  dsimp only [V, hostOps0]
  after_results
  rfl
theorem V_wp (c : Dev nD) : (V m c main_v3 : S256x1024.Idx → EReal) = m ((c : Thread nD τ).loc main_arg9) := by
  dsimp only [V, hostOps0]
  after_results
  rfl
theorem V_last (c : Dev nD) (k : Fin 1024) : (V m c main_v4 : S1x1024.Idx → EReal) (ix2 0 k) = (m ((c : Thread nD τ).loc main_arg10) : S1024.Idx → EReal) (ix1 k) := by
  dsimp only [V, hostOps0]
  after_results
  pointwise []

theorem blk_0 (t : Fin (cfgM m hO).N) (r : Fin 256) (k : Fin 1024) :
    (iblk m hO 0 0 t : S256x1024.Idx → EReal) (ix2 r k) = (V m 0 main_arg0 : S32768x1024.Idx → EReal) (ix2 (tok (grid0.coords t 0) r) k) := by
  show (V m 0 main_arg0 : S32768x1024.Idx → EReal) ((((cfgM m hO).win 0).blk t).view.emb (ix2 r k)) = _
  congr 1
  funext a; apply Fin.ext
  have hc := coord_eq t
  match a with
  | ⟨0, _⟩ =>
    show cc0_transform_0 (grid0.coords t) 0 * 256 + 1 * r.val = (grid0.coords t 0).val * 256 + r.val
    rw [(index_row t 0).1, hc]; show t.val * 256 + _ = _; omega
  | ⟨1, _⟩ =>
    show cc0_transform_0 (grid0.coords t) 1 * 1024 + 1 * k.val = k.val
    rw [(index_row t 1).1]; show 0 * 1024 + _ = _; omega
theorem blk_1 (t : Fin (cfgM m hO).N) (r : Fin 256) (k : Fin 2) :
    (iblk m hO 0 1 t : S256x2.Idx → BitVec 32) (ix2 r k) = (V m 0 main_arg2 : S32768x2.Idx → BitVec 32) (ix2 (tok (grid0.coords t 0) r) k) := by
  show (V m 0 main_arg2 : S32768x2.Idx → BitVec 32) ((((cfgM m hO).win 1).blk t).view.emb (ix2 r k)) = _
  congr 1
  funext a; apply Fin.ext
  have hc := coord_eq t
  match a with
  | ⟨0, _⟩ =>
    show cc0_transform_1 (grid0.coords t) 0 * 256 + 1 * r.val = (grid0.coords t 0).val * 256 + r.val
    rw [(index_row t 0).2.1, hc]; show t.val * 256 + _ = _; omega
  | ⟨1, _⟩ =>
    show cc0_transform_1 (grid0.coords t) 1 * 2 + 1 * k.val = k.val
    rw [(index_row t 1).2.1]; show 0 * 2 + _ = _; omega
theorem blk_2 (t : Fin (cfgM m hO).N) (r : Fin 256) (k : Fin 2) :
    (iblk m hO 0 2 t : S256x2.Idx → EReal) (ix2 r k) = (V m 0 main_arg3 : S32768x2.Idx → EReal) (ix2 (tok (grid0.coords t 0) r) k) := by
  show (V m 0 main_arg3 : S32768x2.Idx → EReal) ((((cfgM m hO).win 2).blk t).view.emb (ix2 r k)) = _
  congr 1
  funext a; apply Fin.ext
  have hc := coord_eq t
  match a with
  | ⟨0, _⟩ =>
    show cc0_transform_2 (grid0.coords t) 0 * 256 + 1 * r.val = (grid0.coords t 0).val * 256 + r.val
    rw [(index_row t 0).2.2.1, hc]; show t.val * 256 + _ = _; omega
  | ⟨1, _⟩ =>
    show cc0_transform_2 (grid0.coords t) 1 * 2 + 1 * k.val = k.val
    rw [(index_row t 1).2.2.1]; show 0 * 2 + _ = _; omega
theorem blk_19 (t : Fin (cfgM m hO).N) (r : Fin 256) (k : Fin 256) :
    (iblk m hO 0 19 t : S256x256.Idx → EReal) (ix2 r k) = (V m 0 main_v0 : S32768x256.Idx → EReal) (ix2 (tok (grid0.coords t 0) r) k) := by
  show (V m 0 main_v0 : S32768x256.Idx → EReal) ((((cfgM m hO).win 19).blk t).view.emb (ix2 r k)) = _
  congr 1
  funext a; apply Fin.ext
  have hc := coord_eq t
  match a with
  | ⟨0, _⟩ =>
    show cc0_transform_19 (grid0.coords t) 0 * 256 + 1 * r.val = (grid0.coords t 0).val * 256 + r.val
    rw [(index_row t 0).2.2.2.1, hc]; show t.val * 256 + _ = _; omega
  | ⟨1, _⟩ =>
    show cc0_transform_19 (grid0.coords t) 1 * 256 + 1 * k.val = k.val
    rw [(index_row t 1).2.2.2.1]; show 0 * 256 + _ = _; omega

/-- A window whose block index is zero holds its whole array. -/
theorem blk_whole (t : Fin (cfgM m hO).N) :
    iblk m hO 0 20 t = V m 0 main_v1 ∧ iblk m hO 0 21 t = V m 0 main_v2 ∧ iblk m hO 0 22 t = V m 0 main_v3 ∧ iblk m hO 0 23 t = V m 0 main_v4 := by
  refine ⟨?_, ?_, ?_, ?_⟩
  · exact Memref.read_access_unit_zero (Elt Ideal) main_v1 (funext fun a => by fin_cases a <;> rfl) _ _
  · exact Memref.read_access_unit_zero (Elt Ideal) main_v2 (funext fun a => by fin_cases a <;> rfl) _ _
  · exact Memref.read_access_unit_zero (Elt Ideal) main_v3 (funext fun a => by fin_cases a <;> rfl) _ _
  · exact Memref.read_access_unit_zero (Elt Ideal) main_v4 (funext fun a => by fin_cases a <;> rfl) _ _

/-- Row `l` of window `j`. -/
def rowIn (j : BitVec 32) (hj : j.toNat < 272) (l : Fin 256) : Fin 69632 := ⟨j.toNat * 256 + l.val, by omega⟩

variable (h : ∀ c k, (window m c k).toNat < 272)

theorem within (i : grid0.Coords) (k : Fin 16) (ix : Fin 2 → Nat) (e : ix = ![(window m (i 0) k).toNat, 0]) (l : Fin 256) (n : Fin 1024) (b : Fin 2) :
    ix b * S256x1024.size b + 1 * ((ix2 l n : S256x1024.Idx) b).val = ((ix2 (rowIn (window m (i 0) k) (h _ k) l) n : S69632x1024.Idx) b).val := by
  rw [e]
  match b with
  | ⟨0, _⟩ => show (window m (i 0) k).toNat * 256 + 1 * l.val = (window m (i 0) k).toNat * 256 + l.val; omega
  | ⟨1, _⟩ => show 0 * 1024 + 1 * n.val = n.val; omega

/-- The windows of the experts' rows. -/
theorem blk_3 (t : Fin (cfgM m hO).N) (l : Fin 256) (n : Fin 1024) : (iblk m hO 0 3 t : S256x1024.Idx → EReal) (ix2 l n)
    = (m (((0 : Dev nD) : Thread nD τ).loc main_arg1) : S69632x1024.Idx → EReal) (ix2 (rowIn (window m (grid0.coords t 0) 0) (h _ 0) l) n) := by
  refine Eq.trans (congrArg (V m 0 main_arg1 : S69632x1024.Idx → EReal) (?_ : (((cfgM m hO).win 3).blk t).view.emb (ix2 l n) = ix2 (rowIn (window m (grid0.coords t 0) 0) (h _ 0) l) n)) (congrFun (V_main_arg1 m 0) _)
  funext b
  apply Fin.ext
  refine Eq.trans (?_ : _ = cc0_transform_3 k0_off1_inb numel1_S1 (tbl m) (grid0.coords t) b * S256x1024.size b + 1 * ((ix2 l n : S256x1024.Idx) b).val) (within m h (grid0.coords t) 0 _ (transform3_eq m _) l n b)
  rfl
theorem blk_4 (t : Fin (cfgM m hO).N) (l : Fin 256) (n : Fin 1024) : (iblk m hO 0 4 t : S256x1024.Idx → EReal) (ix2 l n)
    = (m (((0 : Dev nD) : Thread nD τ).loc main_arg1) : S69632x1024.Idx → EReal) (ix2 (rowIn (window m (grid0.coords t 0) 1) (h _ 1) l) n) := by
  refine Eq.trans (congrArg (V m 0 main_arg1 : S69632x1024.Idx → EReal) (?_ : (((cfgM m hO).win 4).blk t).view.emb (ix2 l n) = ix2 (rowIn (window m (grid0.coords t 0) 1) (h _ 1) l) n)) (congrFun (V_main_arg1 m 0) _)
  funext b
  apply Fin.ext
  refine Eq.trans (?_ : _ = cc0_transform_4 k0_off1_inb numel1_S1 (tbl m) (grid0.coords t) b * S256x1024.size b + 1 * ((ix2 l n : S256x1024.Idx) b).val) (within m h (grid0.coords t) 1 _ (transform4_eq m _) l n b)
  rfl
theorem blk_5 (t : Fin (cfgM m hO).N) (l : Fin 256) (n : Fin 1024) : (iblk m hO 0 5 t : S256x1024.Idx → EReal) (ix2 l n)
    = (m (((0 : Dev nD) : Thread nD τ).loc main_arg1) : S69632x1024.Idx → EReal) (ix2 (rowIn (window m (grid0.coords t 0) 2) (h _ 2) l) n) := by
  refine Eq.trans (congrArg (V m 0 main_arg1 : S69632x1024.Idx → EReal) (?_ : (((cfgM m hO).win 5).blk t).view.emb (ix2 l n) = ix2 (rowIn (window m (grid0.coords t 0) 2) (h _ 2) l) n)) (congrFun (V_main_arg1 m 0) _)
  funext b
  apply Fin.ext
  refine Eq.trans (?_ : _ = cc0_transform_5 k0_off1_inb numel1_S1 (tbl m) (grid0.coords t) b * S256x1024.size b + 1 * ((ix2 l n : S256x1024.Idx) b).val) (within m h (grid0.coords t) 2 _ (transform5_eq m _) l n b)
  rfl
theorem blk_6 (t : Fin (cfgM m hO).N) (l : Fin 256) (n : Fin 1024) : (iblk m hO 0 6 t : S256x1024.Idx → EReal) (ix2 l n)
    = (m (((0 : Dev nD) : Thread nD τ).loc main_arg1) : S69632x1024.Idx → EReal) (ix2 (rowIn (window m (grid0.coords t 0) 3) (h _ 3) l) n) := by
  refine Eq.trans (congrArg (V m 0 main_arg1 : S69632x1024.Idx → EReal) (?_ : (((cfgM m hO).win 6).blk t).view.emb (ix2 l n) = ix2 (rowIn (window m (grid0.coords t 0) 3) (h _ 3) l) n)) (congrFun (V_main_arg1 m 0) _)
  funext b
  apply Fin.ext
  refine Eq.trans (?_ : _ = cc0_transform_6 k0_off1_inb numel1_S1 (tbl m) (grid0.coords t) b * S256x1024.size b + 1 * ((ix2 l n : S256x1024.Idx) b).val) (within m h (grid0.coords t) 3 _ (transform6_eq m _) l n b)
  rfl
theorem blk_7 (t : Fin (cfgM m hO).N) (l : Fin 256) (n : Fin 1024) : (iblk m hO 0 7 t : S256x1024.Idx → EReal) (ix2 l n)
    = (m (((0 : Dev nD) : Thread nD τ).loc main_arg1) : S69632x1024.Idx → EReal) (ix2 (rowIn (window m (grid0.coords t 0) 4) (h _ 4) l) n) := by
  refine Eq.trans (congrArg (V m 0 main_arg1 : S69632x1024.Idx → EReal) (?_ : (((cfgM m hO).win 7).blk t).view.emb (ix2 l n) = ix2 (rowIn (window m (grid0.coords t 0) 4) (h _ 4) l) n)) (congrFun (V_main_arg1 m 0) _)
  funext b
  apply Fin.ext
  refine Eq.trans (?_ : _ = cc0_transform_7 k0_off1_inb numel1_S1 (tbl m) (grid0.coords t) b * S256x1024.size b + 1 * ((ix2 l n : S256x1024.Idx) b).val) (within m h (grid0.coords t) 4 _ (transform7_eq m _) l n b)
  rfl
theorem blk_8 (t : Fin (cfgM m hO).N) (l : Fin 256) (n : Fin 1024) : (iblk m hO 0 8 t : S256x1024.Idx → EReal) (ix2 l n)
    = (m (((0 : Dev nD) : Thread nD τ).loc main_arg1) : S69632x1024.Idx → EReal) (ix2 (rowIn (window m (grid0.coords t 0) 5) (h _ 5) l) n) := by
  refine Eq.trans (congrArg (V m 0 main_arg1 : S69632x1024.Idx → EReal) (?_ : (((cfgM m hO).win 8).blk t).view.emb (ix2 l n) = ix2 (rowIn (window m (grid0.coords t 0) 5) (h _ 5) l) n)) (congrFun (V_main_arg1 m 0) _)
  funext b
  apply Fin.ext
  refine Eq.trans (?_ : _ = cc0_transform_8 k0_off1_inb numel1_S1 (tbl m) (grid0.coords t) b * S256x1024.size b + 1 * ((ix2 l n : S256x1024.Idx) b).val) (within m h (grid0.coords t) 5 _ (transform8_eq m _) l n b)
  rfl
theorem blk_9 (t : Fin (cfgM m hO).N) (l : Fin 256) (n : Fin 1024) : (iblk m hO 0 9 t : S256x1024.Idx → EReal) (ix2 l n)
    = (m (((0 : Dev nD) : Thread nD τ).loc main_arg1) : S69632x1024.Idx → EReal) (ix2 (rowIn (window m (grid0.coords t 0) 6) (h _ 6) l) n) := by
  refine Eq.trans (congrArg (V m 0 main_arg1 : S69632x1024.Idx → EReal) (?_ : (((cfgM m hO).win 9).blk t).view.emb (ix2 l n) = ix2 (rowIn (window m (grid0.coords t 0) 6) (h _ 6) l) n)) (congrFun (V_main_arg1 m 0) _)
  funext b
  apply Fin.ext
  refine Eq.trans (?_ : _ = cc0_transform_9 k0_off1_inb numel1_S1 (tbl m) (grid0.coords t) b * S256x1024.size b + 1 * ((ix2 l n : S256x1024.Idx) b).val) (within m h (grid0.coords t) 6 _ (transform9_eq m _) l n b)
  rfl
theorem blk_10 (t : Fin (cfgM m hO).N) (l : Fin 256) (n : Fin 1024) : (iblk m hO 0 10 t : S256x1024.Idx → EReal) (ix2 l n)
    = (m (((0 : Dev nD) : Thread nD τ).loc main_arg1) : S69632x1024.Idx → EReal) (ix2 (rowIn (window m (grid0.coords t 0) 7) (h _ 7) l) n) := by
  refine Eq.trans (congrArg (V m 0 main_arg1 : S69632x1024.Idx → EReal) (?_ : (((cfgM m hO).win 10).blk t).view.emb (ix2 l n) = ix2 (rowIn (window m (grid0.coords t 0) 7) (h _ 7) l) n)) (congrFun (V_main_arg1 m 0) _)
  funext b
  apply Fin.ext
  refine Eq.trans (?_ : _ = cc0_transform_10 k0_off1_inb numel1_S1 (tbl m) (grid0.coords t) b * S256x1024.size b + 1 * ((ix2 l n : S256x1024.Idx) b).val) (within m h (grid0.coords t) 7 _ (transform10_eq m _) l n b)
  rfl
theorem blk_11 (t : Fin (cfgM m hO).N) (l : Fin 256) (n : Fin 1024) : (iblk m hO 0 11 t : S256x1024.Idx → EReal) (ix2 l n)
    = (m (((0 : Dev nD) : Thread nD τ).loc main_arg1) : S69632x1024.Idx → EReal) (ix2 (rowIn (window m (grid0.coords t 0) 8) (h _ 8) l) n) := by
  refine Eq.trans (congrArg (V m 0 main_arg1 : S69632x1024.Idx → EReal) (?_ : (((cfgM m hO).win 11).blk t).view.emb (ix2 l n) = ix2 (rowIn (window m (grid0.coords t 0) 8) (h _ 8) l) n)) (congrFun (V_main_arg1 m 0) _)
  funext b
  apply Fin.ext
  refine Eq.trans (?_ : _ = cc0_transform_11 k0_off1_inb numel1_S1 (tbl m) (grid0.coords t) b * S256x1024.size b + 1 * ((ix2 l n : S256x1024.Idx) b).val) (within m h (grid0.coords t) 8 _ (transform11_eq m _) l n b)
  rfl
theorem blk_12 (t : Fin (cfgM m hO).N) (l : Fin 256) (n : Fin 1024) : (iblk m hO 0 12 t : S256x1024.Idx → EReal) (ix2 l n)
    = (m (((0 : Dev nD) : Thread nD τ).loc main_arg1) : S69632x1024.Idx → EReal) (ix2 (rowIn (window m (grid0.coords t 0) 9) (h _ 9) l) n) := by
  refine Eq.trans (congrArg (V m 0 main_arg1 : S69632x1024.Idx → EReal) (?_ : (((cfgM m hO).win 12).blk t).view.emb (ix2 l n) = ix2 (rowIn (window m (grid0.coords t 0) 9) (h _ 9) l) n)) (congrFun (V_main_arg1 m 0) _)
  funext b
  apply Fin.ext
  refine Eq.trans (?_ : _ = cc0_transform_12 k0_off1_inb numel1_S1 (tbl m) (grid0.coords t) b * S256x1024.size b + 1 * ((ix2 l n : S256x1024.Idx) b).val) (within m h (grid0.coords t) 9 _ (transform12_eq m _) l n b)
  rfl
theorem blk_13 (t : Fin (cfgM m hO).N) (l : Fin 256) (n : Fin 1024) : (iblk m hO 0 13 t : S256x1024.Idx → EReal) (ix2 l n)
    = (m (((0 : Dev nD) : Thread nD τ).loc main_arg1) : S69632x1024.Idx → EReal) (ix2 (rowIn (window m (grid0.coords t 0) 10) (h _ 10) l) n) := by
  refine Eq.trans (congrArg (V m 0 main_arg1 : S69632x1024.Idx → EReal) (?_ : (((cfgM m hO).win 13).blk t).view.emb (ix2 l n) = ix2 (rowIn (window m (grid0.coords t 0) 10) (h _ 10) l) n)) (congrFun (V_main_arg1 m 0) _)
  funext b
  apply Fin.ext
  refine Eq.trans (?_ : _ = cc0_transform_13 k0_off1_inb numel1_S1 (tbl m) (grid0.coords t) b * S256x1024.size b + 1 * ((ix2 l n : S256x1024.Idx) b).val) (within m h (grid0.coords t) 10 _ (transform13_eq m _) l n b)
  rfl
theorem blk_14 (t : Fin (cfgM m hO).N) (l : Fin 256) (n : Fin 1024) : (iblk m hO 0 14 t : S256x1024.Idx → EReal) (ix2 l n)
    = (m (((0 : Dev nD) : Thread nD τ).loc main_arg1) : S69632x1024.Idx → EReal) (ix2 (rowIn (window m (grid0.coords t 0) 11) (h _ 11) l) n) := by
  refine Eq.trans (congrArg (V m 0 main_arg1 : S69632x1024.Idx → EReal) (?_ : (((cfgM m hO).win 14).blk t).view.emb (ix2 l n) = ix2 (rowIn (window m (grid0.coords t 0) 11) (h _ 11) l) n)) (congrFun (V_main_arg1 m 0) _)
  funext b
  apply Fin.ext
  refine Eq.trans (?_ : _ = cc0_transform_14 k0_off1_inb numel1_S1 (tbl m) (grid0.coords t) b * S256x1024.size b + 1 * ((ix2 l n : S256x1024.Idx) b).val) (within m h (grid0.coords t) 11 _ (transform14_eq m _) l n b)
  rfl
theorem blk_15 (t : Fin (cfgM m hO).N) (l : Fin 256) (n : Fin 1024) : (iblk m hO 0 15 t : S256x1024.Idx → EReal) (ix2 l n)
    = (m (((0 : Dev nD) : Thread nD τ).loc main_arg1) : S69632x1024.Idx → EReal) (ix2 (rowIn (window m (grid0.coords t 0) 12) (h _ 12) l) n) := by
  refine Eq.trans (congrArg (V m 0 main_arg1 : S69632x1024.Idx → EReal) (?_ : (((cfgM m hO).win 15).blk t).view.emb (ix2 l n) = ix2 (rowIn (window m (grid0.coords t 0) 12) (h _ 12) l) n)) (congrFun (V_main_arg1 m 0) _)
  funext b
  apply Fin.ext
  refine Eq.trans (?_ : _ = cc0_transform_15 k0_off1_inb numel1_S1 (tbl m) (grid0.coords t) b * S256x1024.size b + 1 * ((ix2 l n : S256x1024.Idx) b).val) (within m h (grid0.coords t) 12 _ (transform15_eq m _) l n b)
  rfl
theorem blk_16 (t : Fin (cfgM m hO).N) (l : Fin 256) (n : Fin 1024) : (iblk m hO 0 16 t : S256x1024.Idx → EReal) (ix2 l n)
    = (m (((0 : Dev nD) : Thread nD τ).loc main_arg1) : S69632x1024.Idx → EReal) (ix2 (rowIn (window m (grid0.coords t 0) 13) (h _ 13) l) n) := by
  refine Eq.trans (congrArg (V m 0 main_arg1 : S69632x1024.Idx → EReal) (?_ : (((cfgM m hO).win 16).blk t).view.emb (ix2 l n) = ix2 (rowIn (window m (grid0.coords t 0) 13) (h _ 13) l) n)) (congrFun (V_main_arg1 m 0) _)
  funext b
  apply Fin.ext
  refine Eq.trans (?_ : _ = cc0_transform_16 k0_off1_inb numel1_S1 (tbl m) (grid0.coords t) b * S256x1024.size b + 1 * ((ix2 l n : S256x1024.Idx) b).val) (within m h (grid0.coords t) 13 _ (transform16_eq m _) l n b)
  rfl
theorem blk_17 (t : Fin (cfgM m hO).N) (l : Fin 256) (n : Fin 1024) : (iblk m hO 0 17 t : S256x1024.Idx → EReal) (ix2 l n)
    = (m (((0 : Dev nD) : Thread nD τ).loc main_arg1) : S69632x1024.Idx → EReal) (ix2 (rowIn (window m (grid0.coords t 0) 14) (h _ 14) l) n) := by
  refine Eq.trans (congrArg (V m 0 main_arg1 : S69632x1024.Idx → EReal) (?_ : (((cfgM m hO).win 17).blk t).view.emb (ix2 l n) = ix2 (rowIn (window m (grid0.coords t 0) 14) (h _ 14) l) n)) (congrFun (V_main_arg1 m 0) _)
  funext b
  apply Fin.ext
  refine Eq.trans (?_ : _ = cc0_transform_17 k0_off1_inb numel1_S1 (tbl m) (grid0.coords t) b * S256x1024.size b + 1 * ((ix2 l n : S256x1024.Idx) b).val) (within m h (grid0.coords t) 14 _ (transform17_eq m _) l n b)
  rfl
theorem blk_18 (t : Fin (cfgM m hO).N) (l : Fin 256) (n : Fin 1024) : (iblk m hO 0 18 t : S256x1024.Idx → EReal) (ix2 l n)
    = (m (((0 : Dev nD) : Thread nD τ).loc main_arg1) : S69632x1024.Idx → EReal) (ix2 (rowIn (window m (grid0.coords t 0) 15) (h _ 15) l) n) := by
  refine Eq.trans (congrArg (V m 0 main_arg1 : S69632x1024.Idx → EReal) (?_ : (((cfgM m hO).win 18).blk t).view.emb (ix2 l n) = ix2 (rowIn (window m (grid0.coords t 0) 15) (h _ 15) l) n)) (congrFun (V_main_arg1 m 0) _)
  funext b
  apply Fin.ext
  refine Eq.trans (?_ : _ = cc0_transform_18 k0_off1_inb numel1_S1 (tbl m) (grid0.coords t) b * S256x1024.size b + 1 * ((ix2 l n : S256x1024.Idx) b).val) (within m h (grid0.coords t) 15 _ (transform18_eq m _) l n b)
  rfl

/-- A point's sixteen windows of rows. -/
def windows (t : Fin (cfgM m hO).N) : Fin 16 → Vec Ideal S256x1024 .bf16
  | ⟨0, _⟩ => iblk m hO 0 3 t
  | ⟨1, _⟩ => iblk m hO 0 4 t
  | ⟨2, _⟩ => iblk m hO 0 5 t
  | ⟨3, _⟩ => iblk m hO 0 6 t
  | ⟨4, _⟩ => iblk m hO 0 7 t
  | ⟨5, _⟩ => iblk m hO 0 8 t
  | ⟨6, _⟩ => iblk m hO 0 9 t
  | ⟨7, _⟩ => iblk m hO 0 10 t
  | ⟨8, _⟩ => iblk m hO 0 11 t
  | ⟨9, _⟩ => iblk m hO 0 12 t
  | ⟨10, _⟩ => iblk m hO 0 13 t
  | ⟨11, _⟩ => iblk m hO 0 14 t
  | ⟨12, _⟩ => iblk m hO 0 15 t
  | ⟨13, _⟩ => iblk m hO 0 16 t
  | ⟨14, _⟩ => iblk m hO 0 17 t
  | ⟨15, _⟩ => iblk m hO 0 18 t
  | ⟨_ + 16, q⟩ => absurd q (Nat.not_lt.2 (Nat.le_add_left _ _))

theorem windows_at (t : Fin (cfgM m hO).N) : ∀ (k : Fin 16) (l : Fin 256) (n : Fin 1024), windows m hO t k (ix2 l n)
    = (m (((0 : Dev nD) : Thread nD τ).loc main_arg1) : S69632x1024.Idx → EReal) (ix2 (rowIn (window m (grid0.coords t 0) k) (h _ k) l) n)
  | ⟨0, _⟩, l, n => blk_3 m hO h t l n
  | ⟨1, _⟩, l, n => blk_4 m hO h t l n
  | ⟨2, _⟩, l, n => blk_5 m hO h t l n
  | ⟨3, _⟩, l, n => blk_6 m hO h t l n
  | ⟨4, _⟩, l, n => blk_7 m hO h t l n
  | ⟨5, _⟩, l, n => blk_8 m hO h t l n
  | ⟨6, _⟩, l, n => blk_9 m hO h t l n
  | ⟨7, _⟩, l, n => blk_10 m hO h t l n
  | ⟨8, _⟩, l, n => blk_11 m hO h t l n
  | ⟨9, _⟩, l, n => blk_12 m hO h t l n
  | ⟨10, _⟩, l, n => blk_13 m hO h t l n
  | ⟨11, _⟩, l, n => blk_14 m hO h t l n
  | ⟨12, _⟩, l, n => blk_15 m hO h t l n
  | ⟨13, _⟩, l, n => blk_16 m hO h t l n
  | ⟨14, _⟩, l, n => blk_17 m hO h t l n
  | ⟨15, _⟩, l, n => blk_18 m hO h t l n
  | ⟨_ + 16, q⟩, _, _ => absurd q (Nat.not_lt.2 (Nat.le_add_left _ _))

theorem word0_eq (i : grid0.Coords) (k : Fin 16) : word0 0 i (tbl m 0) k = window m (i 0) k := word_window m (i 0) k _ (entry_place i k)
theorem word1_eq (i : grid0.Coords) (k : Fin 16) : word1 0 i (tbl m 1) k = mark m (i 0) k := word_mark m (i 0) k _ (entry_place i k)

/-- The sums of a point's tile. -/
abbrev tileSums (t : Fin (cfgM m hO).N) : FVec Ideal S256x1024 .f32 :=
  sums 0 (grid0.coords t) (iblk m hO 0 0 t) (iblk m hO 0 1 t) (iblk m hO 0 2 t) (iblk m hO 0 3 t) (iblk m hO 0 4 t) (iblk m hO 0 5 t) (iblk m hO 0 6 t) (iblk m hO 0 7 t) (iblk m hO 0 8 t) (iblk m hO 0 9 t) (iblk m hO 0 10 t) (iblk m hO 0 11 t) (iblk m hO 0 12 t) (iblk m hO 0 13 t) (iblk m hO 0 14 t) (iblk m hO 0 15 t) (iblk m hO 0 16 t) (iblk m hO 0 17 t) (iblk m hO 0 18 t) (tbl m 0) (tbl m 1)

theorem tileSums_eq (t : Fin (cfgM m hO).N) : tileSums m hO t
    = Cert.Proof.Combine.chain (iblk m hO 0 1 t) (iblk m hO 0 2 t) (iblk m hO 0 0 t) (mark m (grid0.coords t 0)) (window m (grid0.coords t 0)) (windows m hO t) := by
  rw [← funext (word0_eq m (grid0.coords t)), ← funext (word1_eq m (grid0.coords t))]
  rfl

variable (hp : Places (m (((0 : Dev nD) : Thread nD τ).loc main_arg2) : S32768x2.Idx → BitVec 32) (m (((0 : Dev nD) : Thread nD τ).loc main_arg4) : S2048.Idx → BitVec 32) (m (((0 : Dev nD) : Thread nD τ).loc main_arg5) : S2048.Idx → BitVec 32))

include hp in
/-- They are the reference's, row by row. -/
theorem sums_rows (t : Fin (cfgM m hO).N) (r : Fin 256) (n : Fin 1024) :
    tileSums m hO t (ix2 r n) = Cert.Reference6Ideal.Read.val_main_v26 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (ix2 (tok (grid0.coords t 0) r) n) := by
  have d0 := hp.row_lt (grid0.coords t 0) r 0
  have d1 := hp.row_lt (grid0.coords t 0) r 1
  have small : ∀ c k, (window m c k).toNat < 272 := fun c k => hp.small (slot c k)
  have e1 (s : Fin 2) : (iblk m hO 0 1 t : S256x2.Idx → BitVec 32) (ix2 r s) = (m (((0 : Dev nD) : Thread nD τ).loc main_arg2) : S32768x2.Idx → BitVec 32) (ix2 (tok (grid0.coords t 0) r) s) :=
    (blk_1 m hO t r s).trans (congrFun (V_main_arg2 m 0) _)
  have e2 (s : Fin 2) : (iblk m hO 0 2 t : S256x2.Idx → EReal) (ix2 r s) = (m (((0 : Dev nD) : Thread nD τ).loc main_arg3) : S32768x2.Idx → EReal) (ix2 (tok (grid0.coords t 0) r) s) :=
    (blk_2 m hO t r s).trans (congrFun (V_main_arg3 m 0) _)
  have e0 : (iblk m hO 0 0 t : S256x1024.Idx → EReal) (ix2 r n) = (m (((0 : Dev nD) : Thread nD τ).loc main_arg0) : S32768x1024.Idx → EReal) (ix2 (tok (grid0.coords t 0) r) n) :=
    (blk_0 m hO t r n).trans (congrFun (V_main_arg0 m 0) _)
  have found (d : BitVec 32) (hd : d.toNat < 69632) (k : Fin 16) (hk : Hit (mark m (grid0.coords t 0) k) (window m (grid0.coords t 0) k) d) :
      windows m hO t k (ix2 (lane d) n) = (m (((0 : Dev nD) : Thread nD τ).loc main_arg1) : S69632x1024.Idx → EReal) (ix2 (⟨d.toNat, hd⟩ : Fin 69632) n) := by
    refine (windows_at m hO small t k (lane d) n).trans ?_
    refine congrArg (fun a : Fin 69632 => (m (((0 : Dev nD) : Thread nD τ).loc main_arg1) : S69632x1024.Idx → EReal) (ix2 a n)) (Fin.ext ?_)
    have q := hk.2
    show (window m (grid0.coords t 0) k).toNat * 256 + d.toNat % 256 = d.toNat
    omega
  refine (congrFun (tileSums_eq m hO t) (ix2 r n)).trans ?_
  refine (Cert.Proof.Combine.chain_rows _ _ _ _ _ _ r n (fun k => small _ k) _ _ (e1 0) (e1 1) d0 d1 (hp.apart _) (hp.once _ r 0) (hp.once _ r 1)
    _ _ (fun k hk => found _ d0 k hk) (fun k hk => found _ d1 k hk)).trans ?_
  rw [e0, e2 0, e2 1]
  exact (Cert.Proof.Combine.stream_rows _ _ _ _ (tok (grid0.coords t 0) r) n ⟨_, d0⟩ ⟨_, d1⟩ rfl rfl).symm

/-- The reference's result on the kernel's arguments. -/
def result (c : Dev nD) : S32768x1024.Idx → EReal :=
  Cert.Reference6Ideal.Read.val_main_v63 (F := Ideal) (m (((c) : Thread nD τ).loc main_arg0)) (m (((c) : Thread nD τ).loc main_arg1)) (m (((c) : Thread nD τ).loc main_arg2)) (m (((c) : Thread nD τ).loc main_arg3)) (m (((c) : Thread nD τ).loc main_arg6)) (m (((c) : Thread nD τ).loc main_arg7)) (m (((c) : Thread nD τ).loc main_arg8)) (m (((c) : Thread nD τ).loc main_arg9)) (m (((c) : Thread nD τ).loc main_arg10))

include hp in
/-- What a point leaves at a row of its tile is the reference's result there. -/
theorem outs_eq (t : Fin (cfgM m hO).N) (r : Fin 256) (k : Fin 1024) : outsAt0 m hO 0 t (ix2 r k) = result m 0 (ix2 (tok (grid0.coords t 0) r) k) := by
  obtain ⟨h20, h21, h22, h23⟩ := blk_whole m hO t
  have e : outsAt0 m hO 0 t = k0_pay1 (tileSums m hO t) (den (tileSums m hO t) (iblk m hO 0 20 t) (iblk m hO 0 21 t)) (iblk m hO 0 19 t) (iblk m hO 0 22 t) (iblk m hO 0 23 t) := by
    unfold outsAt0
    exact out_A ..
  refine (congrFun e (ix2 r k)).trans ?_
  exact Cert.Proof.Combine.end_rows (tok (grid0.coords t 0)) _ _ _ _ _ _ _ _ _ _ _ _ _ _ (sums_rows m hO hp t)
    (Cert.Proof.Combine.den_rows (tok (grid0.coords t 0)) _ _ _ _ _ _ _ _ _ (sums_rows m hO hp t) (fun k => (congrFun h20 (ix2 0 k : S1x1024.Idx)).trans (V_gate m 0 k))
      (fun a b => (congrFun h21 (ix2 a b : S1024x1024.Idx)).trans (congrFun (V_wg m 0) _)))
    (fun r k => (blk_19 m hO t r k).trans (congrFun (V_p m 0) _)) (fun a b => (congrFun h22 (ix2 a b : S256x1024.Idx)).trans (congrFun (V_wp m 0) _))
    (fun k => (congrFun h23 (ix2 0 k : S1x1024.Idx)).trans (V_last m 0 k)) r k

include hp in
/-- What point `t` writes back is the reference's result read through the point's block. -/
theorem flushed_eq (t : Fin (cfgM m hO).N) : (dats m hO 0 0).flushed 24 t = (((cfgM m hO).win 24).blk t).view.read (Elt Ideal) (result m 0) := by
  show (((cfgM m hO).win 24).cut (grid0.coords t)) ((dats m hO 0 0).after 24 t) = _
  rw [after0_24]
  funext (j : S256x1024.Idx)
  show outsAt0 m hO 0 t j = result m 0 ((((cfgM m hO).win 24).blk t).view.emb j)
  obtain ⟨r, k, rfl⟩ : ∃ (r : Fin 256) (k : Fin 1024), j = ix2 r k := ⟨j 0, j 1, (ix2_eta j).symm⟩
  refine (outs_eq m hO hp t r k).trans ?_
  have hc := coord_eq t
  congr 1
  funext a; apply Fin.ext
  match a with
  | ⟨0, _⟩ =>
    show (grid0.coords t 0).val * 256 + r.val = cc0_transform_24 (grid0.coords t) 0 * 256 + 1 * r.val
    rw [(index_row t 0).2.2.2.2, hc]; show _ = t.val * 256 + _; omega
  | ⟨1, _⟩ =>
    show k.val = cc0_transform_24 (grid0.coords t) 1 * 1024 + 1 * k.val
    rw [(index_row t 1).2.2.2.2]; show _ = 0 * 1024 + _; omega

/-- The tiles cover the array. -/
theorem cover (i : S32768x1024.Idx) : ∃ t, ((cfgM m hO).win 24).flush t = true ∧ i ∈ (((cfgM m hO).win 24).blk t).view.set := by
  have hi : (i 0).val < 32768 := (i 0).isLt
  have hi1 : (i 1).val < 1024 := (i 1).isLt
  refine ⟨(⟨(i 0).val / 256, by show _ < 128; omega⟩ : Fin grid0.N), flush0_24 _ _, ?_⟩
  generalize ht : (⟨(i 0).val / 256, _⟩ : Fin grid0.N) = t
  have htv : t.val = (i 0).val / 256 := by rw [← ht]
  refine Eq.mpr (congrArg (fun s : Finset S32768x1024.Idx => i ∈ s) (View.set_slice_whole main_v5 (((cfgM m hO).win 24).rect t))) ?_
  refine (Rect.mem_set_unit ..).mpr fun a => ?_
  match a with
  | ⟨0, _⟩ =>
    show cc0_transform_24 (grid0.coords t) 0 * 256 ≤ (i 0).val ∧ (i 0).val < cc0_transform_24 (grid0.coords t) 0 * 256 + 256
    rw [(index_row t 0).2.2.2.2]; show t.val * 256 ≤ _ ∧ _ < t.val * 256 + 256; omega
  | ⟨1, _⟩ =>
    show cc0_transform_24 (grid0.coords t) 1 * 1024 ≤ (i 1).val ∧ (i 1).val < cc0_transform_24 (grid0.coords t) 1 * 1024 + 1024
    rw [(index_row t 1).2.2.2.2]; show 0 * 1024 ≤ _ ∧ _ < 0 * 1024 + 1024; omega

include hp in
/-- So after the run it is the reference's result. -/
theorem final (c : Dev nD) : (dats m hO 0 c).arrAt 24 (cfgM m hO).N = result m c := by
  obtain rfl : c = 0 := Subsingleton.elim _ _
  exact (dats m hO 0 0).arrAt_eq_of_cover 24 (result m 0) (fun t _ => flushed_eq m hO hp t) (cover m hO)

include hp in
/-- The kernel's run at the ideal values: its result is the reference's, its arguments end as they were. -/
theorem run (ρ : Dev nD → PrngReg) : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have hO : Ok m := ok m fun c k => hp.small (slot c k)
  exact (θ_run defs _ _).mono (fun _ q c => ⟨((q.1 c).1 24).trans (final m hO hp c), q.2 c⟩) (θ_run_and (run_main m ρ hO) (unchanged m ρ hO))

end Cert.Kernel6Ideal.Combine

end
-- ==== Proof.Combine.lean ====
/- The claims about the combination: its frames, its reference's, and that the two compute one function, where the
   tokens' rows are placed as the precondition says. -/
module

public import proofs.«01_k».proof.Defs
public import proofs.«01_k».proof.Proof.CombineSame
public import proofs.«01_k».proof.Proof.CombineValue
public import proofs.«01_k».proof.Proof.Gen.Kernel6
public import proofs.«01_k».proof.Proof.Gen.Reference6Ideal.Run
public import proofs.«01_k».proof.Proof.Gen.Reference6Ideal.Read
public import proofs.«01_k».proof.Proof.Gen.Pre_placed

@[expose] public section

set_option maxRecDepth 16384

noncomputable section

namespace Cert.Proof.Combine

open Idealize.ShloMosaic Idealize.SL.Sem

theorem placed (m : (ℓ : Loc Cert.Kernel6Ideal.nD Cert.Kernel6Ideal.τ Cert.Kernel6Ideal.sig) → Buf (Elt Ideal) ℓ) (h : Cert.Pre_Kernel6Ideal (hPre_placed := Cert.Pre_placed.Gen.facts) m) :
    Places (m (((0 : Dev Cert.Kernel6Ideal.nD).tc : Thread Cert.Kernel6Ideal.nD Cert.Kernel6Ideal.τ).loc Cert.Kernel6Ideal.main_arg2)) (m (((0 : Dev Cert.Kernel6Ideal.nD).tc : Thread Cert.Kernel6Ideal.nD Cert.Kernel6Ideal.τ).loc Cert.Kernel6Ideal.main_arg4))
      (m (((0 : Dev Cert.Kernel6Ideal.nD).tc : Thread Cert.Kernel6Ideal.nD Cert.Kernel6Ideal.τ).loc Cert.Kernel6Ideal.main_arg5)) :=
  places _ _ _ _ _ _ _ _ _ _ _ (h 0)

theorem placed_bits (m : (ℓ : Loc Cert.Kernel6.nD Cert.Kernel6.τ Cert.Kernel6.sig) → Buf (Elt Bits) ℓ) (h : Cert.Pre_Kernel6 (hPre_placed := Cert.Pre_placed.Gen.facts) m) :
    Places (m (((0 : Dev Cert.Kernel6.nD).tc : Thread Cert.Kernel6.nD Cert.Kernel6.τ).loc Cert.Kernel6.main_arg2)) (m (((0 : Dev Cert.Kernel6.nD).tc : Thread Cert.Kernel6.nD Cert.Kernel6.τ).loc Cert.Kernel6.main_arg4))
      (m (((0 : Dev Cert.Kernel6.nD).tc : Thread Cert.Kernel6.nD Cert.Kernel6.τ).loc Cert.Kernel6.main_arg5)) :=
  places _ _ _ _ _ _ _ _ _ _ _ (h 0)

set_option maxHeartbeats 2000000 in
/-- The kernel terminates, leaves its arguments and every counter at zero: its ideal program's text is the same, so its run is that one's, at the machine's numbers. -/
theorem frame : Cert.quiescent_Kernel6 (hKernel6 := Cert.Kernel6.Gen.facts) (hPre_placed := Cert.Pre_placed.Gen.facts) := fun m g h => by
  have q := Cert.Kernel6Ideal.Combine.frame (F := Bits) m g (Cert.Kernel6Ideal.Combine.ok (F := Bits) m fun c k => (placed_bits m h).small (slot c k))
  rw [← same_defs, ← same_main] at q
  exact q

/-- So does its ideal program. -/
theorem frameIdeal : Cert.quiescent_Kernel6Ideal (hKernel6Ideal := Cert.Kernel6Ideal.Gen.facts) (hPre_placed := Cert.Pre_placed.Gen.facts) :=
  fun m g h => Cert.Kernel6Ideal.Combine.frame m g (Cert.Kernel6Ideal.Combine.ok m fun c k => (placed m h).small (slot c k))

/-- So does its reference. -/
theorem frameReference : Cert.quiescent_Reference6Ideal (hReference6Ideal := Cert.Reference6Ideal.Gen.facts) (hPre_placed := Cert.Pre_placed.Gen.facts) :=
  fun m g _ => (θ_run (Cert.Reference6Ideal.defs (F := Ideal)) _ _).mono
    (fun r h => ⟨fun c => (h c).2, Idealize.ShloMosaic.sem_eq_zero_of_no_sems (by decide) r.2⟩) (Cert.Reference6Ideal.Value.run m g)

/-- Kernel and reference compute the same function over the extended reals. -/
theorem algebraic : Cert.algebraic_Kernel6Ideal_Reference6Ideal (hKernel6Ideal := Cert.Kernel6Ideal.Gen.facts) (hReference6Ideal := Cert.Reference6Ideal.Gen.facts)
    (hPre_placed := Cert.Pre_placed.Gen.facts) := by
  intro m g m' g' hp heq
  refine ⟨Cert.Kernel6Ideal.Combine.result m, Cert.Kernel6Ideal.Combine.run m (placed m hp) g, ?_⟩
  refine (θ_run (Cert.Reference6Ideal.defs (F := Ideal)) _ _).mono (fun r h c => ⟨(h c).1.trans ?_, (h c).2⟩) (Cert.Reference6Ideal.Value.run m' g')
  refine (Cert.Reference6Ideal.Read.val_main_v63_eq _ _).trans ?_
  obtain ⟨e0, e1, e2, e3, e4, e5, e6, e7, e8, e9, e10⟩ := heq c
  rw [e0, e1, e2, e3, e6, e7, e8, e9, e10]
  rfl

end Cert.Proof.Combine

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.DenseFfn
public import proofs.«01_k».proof.Proof.Expert
public import proofs.«01_k».proof.Proof.OutProj
public import proofs.«01_k».proof.Proof.Combine
public import Idealize.ShloMosaic.Adequacy
public import Idealize.ShloMosaic.Init

@[expose] public section

noncomputable section

namespace Cert.Proof

open Idealize.ShloMosaic Idealize.SL.Sem

/-- The recurrence's reference, all on the host, terminates, leaves its arguments and every counter at zero. -/
theorem recurrence_frameReference : Cert.quiescent_ReferenceIdeal (hReferenceIdeal := Cert.ReferenceIdeal.Gen.facts) :=
  fun m g _ => (θ_run (Cert.ReferenceIdeal.defs (F := Ideal)) _ _).mono
    (fun r h => ⟨fun c => (h c).2, Idealize.ShloMosaic.sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Pre_in_range.Gen.facts, Cert.Pre_placed.Gen.facts,
  fun m g _ => Cert.Kernel.Gen.frame m g, fun m g _ => Cert.KernelIdeal.Gen.frame m g, recurrence_frameReference,
  Dense.frame, Dense.frameIdeal, Dense.frameReference, Expert.frame, Expert.frameIdeal, Expert.frameReference,
  OutProj.frame, OutProj.frameIdeal, OutProj.frameReference,
  Combine.frame, Combine.frameIdeal, Combine.frameReference, trivial, trivial, Dense.algebraic, trivial, Expert.algebraic,
  trivial, OutProj.algebraic, trivial, Combine.algebraic⟩

end Cert.Proof

end
